-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x39D79436#32 ((1 / 2432 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x2432 : Shape := ⟨3, ![2, 1024, 2432]⟩
abbrev S2x1024x19 : Shape := ⟨3, ![2, 1024, 19]⟩
abbrev S2x2432 : Shape := ⟨2, ![2, 2432]⟩
abbrev S2x1x2432 : Shape := ⟨3, ![2, 1, 2432]⟩
abbrev S2x3x2432 : Shape := ⟨3, ![2, 3, 2432]⟩
abbrev S2x8x3x2432 : Shape := ⟨4, ![2, 8, 3, 2432]⟩
abbrev S1x128x2432 : Shape := ⟨3, ![1, 128, 2432]⟩
abbrev S1x128x19 : Shape := ⟨3, ![1, 128, 19]⟩
abbrev S1x1x2432 : Shape := ⟨3, ![1, 1, 2432]⟩
abbrev S1x3x2432 : Shape := ⟨3, ![1, 3, 2432]⟩
abbrev S1x1x3x2432 : Shape := ⟨4, ![1, 1, 3, 2432]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩
abbrev S1x1x128 : Shape := ⟨3, ![1, 1, 128]⟩
abbrev S1x128 : Shape := ⟨2, ![1, 128]⟩
abbrev S1x1x1x128 : Shape := ⟨4, ![1, 1, 1, 128]⟩
abbrev S3x2432 : Shape := ⟨2, ![3, 2432]⟩

abbrev nBuf : Space → Nat
  | .hbm => 12
  | .vmem => 22
  | .smem => 0
  | _ => 0

abbrev bufTy : (tb : Table) → Fin (tcTables nBuf tb) → BufTy
  | .hbm, ⟨0, _⟩ => ⟨S2x1024x2432, .fp8e4m3⟩
  | .hbm, ⟨1, _⟩ => ⟨S2x1024x19, .f32⟩
  | .hbm, ⟨2, _⟩ => ⟨S2x1024x2432, .bf16⟩
  | .hbm, ⟨3, _⟩ => ⟨S2x1024x2432, .fp8e5m2⟩
  | .hbm, ⟨4, _⟩ => ⟨S2x1024x19, .f32⟩
  | .hbm, ⟨5, _⟩ => ⟨S2x1024x2432, .fp8e5m2⟩
  | .hbm, ⟨6, _⟩ => ⟨S2x1024x19, .f32⟩
  | .hbm, ⟨7, _⟩ => ⟨S2x2432, .f32⟩
  | .hbm, ⟨8, _⟩ => ⟨S2x1x2432, .f32⟩
  | .hbm, ⟨9, _⟩ => ⟨S2x1024x2432, .bf16⟩
  | .hbm, ⟨10, _⟩ => ⟨S2x3x2432, .f32⟩
  | .hbm, ⟨11, _⟩ => ⟨S2x8x3x2432, .f32⟩
  | .local _ .vmem, ⟨0, _⟩ => ⟨S1x128x2432, .fp8e4m3⟩
  | .local _ .vmem, ⟨1, _⟩ => ⟨S1x128x2432, .fp8e4m3⟩
  | .local _ .vmem, ⟨2, _⟩ => ⟨S1x128x19, .f32⟩
  | .local _ .vmem, ⟨3, _⟩ => ⟨S1x128x19, .f32⟩
  | .local _ .vmem, ⟨4, _⟩ => ⟨S1x128x2432, .bf16⟩
  | .local _ .vmem, ⟨5, _⟩ => ⟨S1x128x2432, .bf16⟩
  | .local _ .vmem, ⟨6, _⟩ => ⟨S1x128x2432, .fp8e5m2⟩
  | .local _ .vmem, ⟨7, _⟩ => ⟨S1x128x2432, .fp8e5m2⟩
  | .local _ .vmem, ⟨8, _⟩ => ⟨S1x128x19, .f32⟩
  | .local _ .vmem, ⟨9, _⟩ => ⟨S1x128x19, .f32⟩
  | .local _ .vmem, ⟨10, _⟩ => ⟨S1x128x2432, .fp8e5m2⟩
  | .local _ .vmem, ⟨11, _⟩ => ⟨S1x128x2432, .fp8e5m2⟩
  | .local _ .vmem, ⟨12, _⟩ => ⟨S1x128x19, .f32⟩
  | .local _ .vmem, ⟨13, _⟩ => ⟨S1x128x19, .f32⟩
  | .local _ .vmem, ⟨14, _⟩ => ⟨S1x1x2432, .f32⟩
  | .local _ .vmem, ⟨15, _⟩ => ⟨S1x1x2432, .f32⟩
  | .local _ .vmem, ⟨16, _⟩ => ⟨S1x128x2432, .bf16⟩
  | .local _ .vmem, ⟨17, _⟩ => ⟨S1x128x2432, .bf16⟩
  | .local _ .vmem, ⟨18, _⟩ => ⟨S1x3x2432, .f32⟩
  | .local _ .vmem, ⟨19, _⟩ => ⟨S1x3x2432, .f32⟩
  | .local _ .vmem, ⟨20, _⟩ => ⟨S1x1x3x2432, .f32⟩
  | .local _ .vmem, ⟨21, _⟩ => ⟨S1x1x3x2432, .f32⟩
  | _, _ => ⟨S2x1024x2432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v1978 : BitVec 1 := Scalar.cmpi .eq arg1 c0_i32
  let v1979 : BitVec 32 := Scalar.extui v1978
  let c0_i32_1209 : BitVec 32 := 0#32
  let v1980 : BitVec 1 := Scalar.cmpi .ne v1979 c0_i32_1209
  v1980

def k0_cond2 (i : grid0.Coords) : BitVec 1 :=
  let arg1 : BitVec 32 := BitVec.ofNat 32 (i 1).val
  let c0_i32_1210 : BitVec 32 := 0#32
  let v1981 : BitVec 1 := Scalar.cmpi .ne arg1 c0_i32_1210
  let v1982 : BitVec 32 := Scalar.extui v1981
  let c0_i32_1211 : BitVec 32 := 0#32
  let v1983 : BitVec 1 := Scalar.cmpi .ne v1982 c0_i32_1211
  v1983

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x2432 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x19 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2432 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x19 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2432 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x19 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2432 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x2432 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x2432 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x3x2432 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_d" => some ((1 / 2432 : ℝ) : EReal)
  | _ => none
-- ==== ReferenceIdeal.lean ====
abbrev S2x1024x2432 : Shape := ⟨3, ![2, 1024, 2432]⟩
abbrev S2x1024x19 : Shape := ⟨3, ![2, 1024, 19]⟩
abbrev S2x2432 : Shape := ⟨2, ![2, 2432]⟩
abbrev S2x3x2432 : Shape := ⟨3, ![2, 3, 2432]⟩
abbrev S2x8x3x2432 : Shape := ⟨4, ![2, 8, 3, 2432]⟩
abbrev S2x1024x19x128 : Shape := ⟨4, ![2, 1024, 19, 128]⟩
abbrev S2x1024x19x1 : Shape := ⟨4, ![2, 1024, 19, 1]⟩
abbrev S2x1024 : Shape := ⟨2, ![2, 1024]⟩
abbrev S2x1024x1 : Shape := ⟨3, ![2, 1024, 1]⟩
abbrev S2x8x128x2432 : Shape := ⟨4, ![2, 8, 128, 2432]⟩
abbrev S2x8x2432 : Shape := ⟨3, ![2, 8, 2432]⟩
abbrev S2x8x1x2432 : Shape := ⟨4, ![2, 8, 1, 2432]⟩
abbrev S2x1x2432 : Shape := ⟨3, ![2, 1, 2432]⟩

abbrev nBuf : Space → Nat
  | .hbm => 11
  | .vmem => 11
  | .smem => 0
  | _ => 0

abbrev bufTy : (tb : Table) → Fin (tcTables nBuf tb) → BufTy
  | .hbm, ⟨0, _⟩ => ⟨S2x1024x2432, .fp8e4m3⟩
  | .hbm, ⟨1, _⟩ => ⟨S2x1024x19, .f32⟩
  | .hbm, ⟨2, _⟩ => ⟨S2x1024x2432, .bf16⟩
  | .hbm, ⟨3, _⟩ => ⟨S2x1024x2432, .fp8e5m2⟩
  | .hbm, ⟨4, _⟩ => ⟨S2x1024x19, .f32⟩
  | .hbm, ⟨5, _⟩ => ⟨S2x1024x2432, .fp8e5m2⟩
  | .hbm, ⟨6, _⟩ => ⟨S2x1024x19, .f32⟩
  | .hbm, ⟨7, _⟩ => ⟨S2x2432, .f32⟩
  | .hbm, ⟨8, _⟩ => ⟨S2x1024x2432, .bf16⟩
  | .hbm, ⟨9, _⟩ => ⟨S2x3x2432, .f32⟩
  | .hbm, ⟨10, _⟩ => ⟨S2x8x3x2432, .f32⟩
  | .local _ .vmem, ⟨0, _⟩ => ⟨S2x1024x2432, .fp8e4m3⟩
  | .local _ .vmem, ⟨1, _⟩ => ⟨S2x1024x19, .f32⟩
  | .local _ .vmem, ⟨2, _⟩ => ⟨S2x1024x2432, .bf16⟩
  | .local _ .vmem, ⟨3, _⟩ => ⟨S2x1024x2432, .fp8e5m2⟩
  | .local _ .vmem, ⟨4, _⟩ => ⟨S2x1024x19, .f32⟩
  | .local _ .vmem, ⟨5, _⟩ => ⟨S2x1024x2432, .fp8e5m2⟩
  | .local _ .vmem, ⟨6, _⟩ => ⟨S2x1024x19, .f32⟩
  | .local _ .vmem, ⟨7, _⟩ => ⟨S2x2432, .f32⟩
  | .local _ .vmem, ⟨8, _⟩ => ⟨S2x1024x2432, .bf16⟩
  | .local _ .vmem, ⟨9, _⟩ => ⟨S2x3x2432, .f32⟩
  | .local _ .vmem, ⟨10, _⟩ => ⟨S2x8x3x2432, .f32⟩
  | _, _ => ⟨S2x1024x2432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x1024x2432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x19 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x2432 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x19 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x2432 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x19 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2432 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x2432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x3x2432 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8x3x2432 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Block.lean ====
/-
  WHAT THE KERNEL COMPUTES AT ONE GRID POINT, written over the 19 groups of 128 channels.

  The kernel's body treats a block of 128 tokens by 2432 channels as 19 chunks of 128 channels, each of which carries one
  scale per token, and it is printed chunk by chunk: 19 loads, 19 products, 19 stores. Here the same vector operations are
  written ONCE per quantity, for chunk number `j : Fin 19`; a quantity summed over the chunks is `chunks step start`.
-/
module

public import proofs.«01_k».proof.Proof.Gen.KernelIdeal.Skeleton
public import Idealize.ShloMosaic.Lib.Pipeline.Value

@[expose] public section

noncomputable section

namespace Cert.Block

open Cert.KernelIdeal Cert.KernelIdeal.Gen Idealize.ShloMosaic Idealize.SL.Sem

variable {F : FTy → Type} [FloatOps F] [Named F]

/-! ## Where chunk `j` lies -/

/-- Channel chunk `j` ends inside a token block. -/
theorem inbX (j : Fin 19) (a : Fin 3) : (![0, 0, j.val * 128] : Fin 3 → Nat) a + (![1, 128, 128] : Fin 3 → Nat) a ≤ S1x128x2432.size a := by
  have := j.isLt
  fin_cases a <;> simp <;> omega

/-- Scale column `j` lies inside the scales' block. -/
theorem inbS (j : Fin 19) (a : Fin 3) : (![0, 0, j.val] : Fin 3 → Nat) a + (![1, 128, 1] : Fin 3 → Nat) a ≤ S1x128x19.size a := by
  have := j.isLt
  fin_cases a <;> simp <;> omega

/-- Channel chunk `j` ends inside the modulation row. -/
theorem inbM (j : Fin 19) (a : Fin 3) : (![0, 0, j.val * 128] : Fin 3 → Nat) a + (![1, 1, 128] : Fin 3 → Nat) a ≤ S1x1x2432.size a := by
  have := j.isLt
  fin_cases a <;> simp <;> omega

/-- Channel chunk `j` of row `k` ends inside the block of partial sums. -/
theorem inbR (k : Fin 3) (j : Fin 19) (a : Fin 4) : (![0, 0, k.val, j.val * 128] : Fin 4 → Nat) a + (![1, 1, 1, 128] : Fin 4 → Nat) a ≤ S1x1x3x2432.size a := by
  have := j.isLt
  have := k.isLt
  fin_cases a <;> simp <;> omega

/-- The channels of chunk `j` of a token block. -/
abbrev rX (j : Fin 19) : Rect S1x128x2432 := Rect.unit (s := S1x128x2432) ![0, 0, j.val * 128] ![1, 128, 128] (inbX j)
/-- The scales of chunk `j`. -/
abbrev rS (j : Fin 19) : Rect S1x128x19 := Rect.unit (s := S1x128x19) ![0, 0, j.val] ![1, 128, 1] (inbS j)
/-- The channels of chunk `j` of the modulation row. -/
abbrev rM (j : Fin 19) : Rect S1x1x2432 := Rect.unit (s := S1x1x2432) ![0, 0, j.val * 128] ![1, 1, 128] (inbM j)
/-- The channels of chunk `j` of row `k` of the block of partial sums. -/
abbrev rR (k : Fin 3) (j : Fin 19) : Rect S1x1x3x2432 := Rect.unit (s := S1x1x3x2432) ![0, 0, k.val, j.val * 128] ![1, 1, 1, 128] (inbR k j)

/-- A step for each of the chunks 1 to 18 in order. -/
abbrev later {A : Type} (f : Fin 19 → A → A) (a : A) : A :=
  f 18 (f 17 (f 16 (f 15 (f 14 (f 13 (f 12 (f 11 (f 10 (f 9 (f 8 (f 7 (f 6 (f 5 (f 4 (f 3 (f 2 (f 1 a)))))))))))))))))
/-- A step for each of the 19 chunks in order. -/
abbrev chunks {A : Type} (f : Fin 19 → A → A) (a : A) : A := later f (f 0 a)

variable (x0 : Vec F S1x128x2432 .fp8e4m3) (x1 : Vec F S1x128x19 .f32) (x2 : Vec F S1x128x2432 .bf16)
  (x3 : Vec F S1x128x2432 .fp8e5m2) (x4 : Vec F S1x128x19 .f32) (x5 : Vec F S1x128x2432 .fp8e5m2)
  (x6 : Vec F S1x128x19 .f32) (x7 : Vec F S1x1x2432 .f32)

/-- A column of 128 numbers beside each of the 128 channels. -/
abbrev col (v : FVec F S128x1 .f32) : FVec F S128x128 .f32 := broadcastTo S128x128 v broadcasts_S128x1_S128x128
/-- A row of 128 numbers under each of the 128 tokens. -/
abbrev row (v : FVec F S1x128 .f32) : FVec F S128x128 .f32 := broadcastTo S128x128 v broadcasts_S1x128_S128x128
/-- The zeros a sum starts from. -/
abbrev zeros : FVec F S128x128 .f32 := broadcast S128x128 (Scalar.ofBits .f32 0x00000000#32)
/-- Sum over the 128 channels of a chunk. -/
abbrev laneSum (v : FVec F S128x128 .f32) : FVec F S128x1 .f32 :=
  shapeCast S128x1 (multiReduction .add [1] S128 v 0x00000000#32 reduces_S128x128_S128 (.inl rfl) rfl) shapeCasts_S128_S128x1
/-- Sum over the 128 channels times the constant 1/2432. -/
abbrev laneMean (v : FVec F S128x128 .f32) : FVec F S128x1 .f32 :=
  mulf (laneSum v) (broadcast S128x1 (Named.named κ "inv_d" 0x39D79436#32))
/-- Sum over the 128 tokens, as a row of the block of partial sums. -/
abbrev tokenSum (v : FVec F S128x128 .f32) : FVec F S1x1x1x128 .f32 :=
  shapeCast S1x1x1x128 (shapeCast S1x128 (multiReduction .add [0] S128 v 0x00000000#32 reduces_S128x128_S128_2 (.inl rfl) rfl)
    shapeCasts_S128_S1x128) shapeCasts_S1x128_S1x1x1x128

/-- Chunk `j` of a coded e4m3 block with its scales multiplied in. -/
abbrev deq4 (a : Vec F S1x128x2432 .fp8e4m3) (s : Vec F S1x128x19 .f32) (j : Fin 19) : FVec F S128x128 .f32 :=
  mulf (extf .f32 (shapeCast S128x128 (View.ld a (rX j) : Vec F S1x128x128 .fp8e4m3) shapeCasts_S1x128x128_S128x128) bitsLt_fp8e4m3_f32)
    (col (shapeCast S128x1 (View.ld s (rS j) : Vec F S1x128x1 .f32) shapeCasts_S1x128x1_S128x1))
/-- Chunk `j` of a coded e5m2 block with its scales multiplied in. -/
abbrev deq5 (a : Vec F S1x128x2432 .fp8e5m2) (s : Vec F S1x128x19 .f32) (j : Fin 19) : FVec F S128x128 .f32 :=
  mulf (extf .f32 (shapeCast S128x128 (View.ld a (rX j) : Vec F S1x128x128 .fp8e5m2) shapeCasts_S1x128x128_S128x128) bitsLt_fp8e5m2_f32)
    (col (shapeCast S128x1 (View.ld s (rS j) : Vec F S1x128x1 .f32) shapeCasts_S1x128x1_S128x1))

/-- The mean of `x` over the channels. -/
def mu : FVec F S128x1 .f32 :=
  laneMean (later (fun j acc => addf acc (deq4 x0 x1 j)) (deq4 x0 x1 0))

/-- `x - mu`, chunk `j`. -/
abbrev cen (j : Fin 19) : FVec F S128x128 .f32 := subf (deq4 x0 x1 j) (col (mu x0 x1))

/-- One over the standard deviation. -/
def rstd : FVec F S128x1 .f32 :=
  rsqrt (addf (laneMean (chunks (fun j acc => addf acc (mulf (cen x0 x1 j) (cen x0 x1 j))) zeros))
    (broadcast S128x1 (Scalar.ofBits .f32 0x358637BD#32)))

/-- The normalized `x`, chunk `j`. -/
abbrev xhat (j : Fin 19) : FVec F S128x128 .f32 := mulf (cen x0 x1 j) (col (rstd x0 x1))

/-- `1 + scale`, chunk `j`. -/
abbrev wrow (j : Fin 19) : FVec F S128x128 .f32 :=
  row (addf (broadcast S1x128 (Scalar.ofBits .f32 0x3F800000#32))
    (shapeCast S1x128 (View.ld x7 (rM j) : Vec F S1x1x128 .f32) shapeCasts_S1x1x128_S1x128))

/-- `dh * xhat`, chunk `j`. -/
abbrev hx (j : Fin 19) : FVec F S128x128 .f32 := mulf (deq5 x5 x6 j) (xhat x0 x1 j)

/-- The mean of `g = dh * w` over the channels. -/
def mg : FVec F S128x1 .f32 :=
  laneMean (chunks (fun j acc => addf acc (mulf (deq5 x5 x6 j) (wrow x7 j))) zeros)

/-- The mean of `g * xhat` over the channels. -/
def mgx : FVec F S128x1 .f32 :=
  laneMean (chunks (fun j acc => addf acc (mulf (hx x0 x1 x5 x6 j) (wrow x7 j))) zeros)

/-- Chunk `j` of `dx`. -/
def dx (j : Fin 19) : FVec F S1x128x128 .bf16 :=
  shapeCast S1x128x128 (truncf .bf16 (addf (deq5 x3 x4 j) (mulf (col (rstd x0 x1))
    (subf (subf (mulf (deq5 x5 x6 j) (wrow x7 j)) (col (mg x5 x6 x7))) (mulf (xhat x0 x1 j) (col (mgx x0 x1 x5 x6 x7))))))
    bitsLt_bf16_f32) shapeCasts_S128x128_S1x128x128

/-- Chunk `j` of the token sums of `dh`. -/
def sh (j : Fin 19) : FVec F S1x1x1x128 .f32 := tokenSum (deq5 x5 x6 j)
/-- Chunk `j` of the token sums of `dh * xhat`. -/
def shx (j : Fin 19) : FVec F S1x1x1x128 .f32 := tokenSum (hx x0 x1 x5 x6 j)
/-- Chunk `j` of the token sums of `dy * f`. -/
def syf (j : Fin 19) : FVec F S1x1x1x128 .f32 :=
  tokenSum (mulf (deq5 x3 x4 j) (extf .f32 (shapeCast S128x128 (View.ld x2 (rX j) : Vec F S1x128x128 .bf16) shapeCasts_S1x128x128_S128x128) bitsLt_bf16_f32))

/-- The pieces of the `dx` block, the last stored first. -/
abbrev piecesDx : List (View.Piece (Elt F) S1x128x2432 .bf16) :=
  chunks (fun j L => ⟨rX j, dx x0 x1 x3 x4 x5 x6 x7 j⟩ :: L) []

/-- The pieces of the block of partial sums, the last stored first. -/
abbrev piecesSum : List (View.Piece (Elt F) S1x1x3x2432 .f32) :=
  chunks (fun j L => ⟨rR 2 j, syf x2 x3 x4 j⟩ :: ⟨rR 1 j, shx x0 x1 x5 x6 j⟩ :: ⟨rR 0 j, sh x5 x6 j⟩ :: L) []

/-- The `dx` block the pieces make. -/
def dxBlock : Vec F S1x128x2432 .bf16 := View.canon (piecesDx x0 x1 x3 x4 x5 x6 x7)
/-- The block of partial sums the pieces make. -/
def sumBlock : Vec F S1x1x3x2432 .f32 := View.canon (piecesSum x0 x1 x2 x3 x4 x5 x6)

end Cert.Block
-- ==== Proof.Pieces.lean ====
/-
  THE PRINTED BODY AND THE CHUNKS: the stores the frame's run finds, payload by payload, are the pieces of Block.lean —
  the printed operations are the same operations with the chunk number a literal, so each equation holds by unfolding.
  The body has two paths (the first point of a row writes the running sum, a later point adds to it); the blocks are the
  same on both.
-/
module

public import proofs.«01_k».proof.Proof.Gen.KernelIdeal.Frame
public import proofs.«01_k».proof.Proof.Block

@[expose] public section

set_option maxRecDepth 100000

noncomputable section

namespace Cert.Block

open Cert.KernelIdeal Cert.KernelIdeal.Gen Idealize.ShloMosaic Idealize.ShloMosaic.TcCoe Idealize.SL.Sem

variable {F : FTy → Type} [FloatOps F] [Named F]
variable
  (c : Dev nD) (i : grid0.Coords) (arg2 : Memref sig .tc .vmem S1x128x2432 .fp8e4m3) (harg2 : arg2.IsWhole)
  (arg3 : Memref sig .tc .vmem S1x128x19 .f32) (harg3 : arg3.IsWhole)
  (arg4 : Memref sig .tc .vmem S1x128x2432 .bf16) (harg4 : arg4.IsWhole)
  (arg5 : Memref sig .tc .vmem S1x128x2432 .fp8e5m2) (harg5 : arg5.IsWhole)
  (arg6 : Memref sig .tc .vmem S1x128x19 .f32) (harg6 : arg6.IsWhole)
  (arg7 : Memref sig .tc .vmem S1x128x2432 .fp8e5m2) (harg7 : arg7.IsWhole)
  (arg8 : Memref sig .tc .vmem S1x128x19 .f32) (harg8 : arg8.IsWhole) (arg9 : Memref sig .tc .vmem S1x1x2432 .f32)
  (harg9 : arg9.IsWhole) (arg10 : Memref sig .tc .vmem S1x128x2432 .bf16) (harg10 : arg10.IsWhole)
  (arg11 : Memref sig .tc .vmem S1x3x2432 .f32) (harg11 : arg11.IsWhole)
  (arg12 : Memref sig .tc .vmem S1x1x3x2432 .f32) (harg12 : arg12.IsWhole)
  (x0 : Vec F S1x128x2432 .fp8e4m3) (x1 : Vec F S1x128x19 .f32) (x2 : Vec F S1x128x2432 .bf16)
  (x3 : Vec F S1x128x2432 .fp8e5m2) (x4 : Vec F S1x128x19 .f32) (x5 : Vec F S1x128x2432 .fp8e5m2)
  (x6 : Vec F S1x128x19 .f32) (x7 : Vec F S1x1x2432 .f32)
include c i arg2 harg2 arg3 harg3 arg4 harg4 arg5 harg5 arg6 harg6 arg7 harg7 arg8 harg8 arg9 harg9 arg10 harg10 arg11 harg11 arg12 harg12 x0 x1 x2 x3 x4 x5 x6 x7

/-! ## At the first point of a row -/

/-- At the first point of a row: the 19 stores into the `dx` block are the 19 pieces. -/
theorem run_A_8 (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1 = piecesDx x0 x1 x3 x4 x5 x6 x7 := by
  unfold kernelRun0_A
  dsimp only
  iterate 3 sl_unfold_run_names
  simp only [View.readAt_eq_ld, harg2.read_unread, harg3.read_unread, harg4.read_unread, harg5.read_unread, harg6.read_unread, harg7.read_unread, harg8.read_unread, harg9.read_unread]
  sl_kernel_rfl

/-- At the first point of a row: the 57 stores into the block of partial sums are the 57 pieces. -/
theorem run_A_10 (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 = piecesSum x0 x1 x2 x3 x4 x5 x6 := by
  unfold kernelRun0_A
  dsimp only
  iterate 3 sl_unfold_run_names
  simp only [View.readAt_eq_ld, harg2.read_unread, harg3.read_unread, harg4.read_unread, harg5.read_unread, harg6.read_unread, harg7.read_unread, harg8.read_unread, harg9.read_unread]
  sl_kernel_rfl

/-- At the first point of a row: the block of partial sums read back is the block of those pieces. -/
theorem readBack_A (hc0 : cond0_0 i) (hc1 : ¬cond0_1 i) :
    kernelRun0_A.sl.v1984 c arg2 harg2 arg3 harg3 arg4 harg4 arg5 harg5 arg6 harg6 arg7 harg7 arg8 harg8 arg12 x0 x1 x2 x3 x4 x5 x6 = sumBlock x0 x1 x2 x3 x4 x5 x6 := by
  have h : kernelRun0_A.sl.v1984 c arg2 harg2 arg3 harg3 arg4 harg4 arg5 harg5 arg6 harg6 arg7 harg7 arg8 harg8 arg12 x0 x1 x2 x3 x4 x5 x6
      = arg12.view.readCov (piecesSum x0 x1 x2 x3 x4 x5 x6) (Rect.unit (s := S1x1x3x2432) ![0, 0, 0, 0] S1x1x3x2432.size inb_S1x1x3x2432_S1x1x3x2432_0_0_0_0).toLoadRect := by
    iterate 3 sl_unfold_run_names
    simp only [View.readAt_eq_ld, harg2.read_unread, harg3.read_unread, harg4.read_unread, harg5.read_unread, harg6.read_unread, harg7.read_unread, harg8.read_unread, harg9.read_unread]
    sl_kernel_rfl
  have hc : ∀ y, ∃ pc ∈ piecesSum x0 x1 x2 x3 x4 x5 x6, y ∈ pc.1.set := fun y => by
    rw [← run_A_10 c i arg2 harg2 arg3 harg3 arg4 harg4 arg5 harg5 arg6 harg6 arg7 harg7 arg8 harg8 arg9 harg9 arg10 harg10 arg11 harg11 arg12 harg12 x0 x1 x2 x3 x4 x5 x6 x7 hc0 hc1]
    exact cover0_A_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 y
  rw [h, View.readCov_eq_canon_ld _ _ _ hc, View.ld_unit_zero (funext fun a => by fin_cases a <;> rfl : (![0, 0, 0, 0] : Fin 4 → Nat) = fun _ => 0)]
  rfl

/-- At the first point of a row: the `dx` block. -/
theorem out_A_8 (hc0 : cond0_0 i) (hc1 : ¬cond0_1 i) :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 = dxBlock x0 x1 x3 x4 x5 x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7), run_A_8]
  rfl

/-- At the first point of a row: the block of partial sums. -/
theorem out_A_10 (hc0 : cond0_0 i) (hc1 : ¬cond0_1 i) :
    out0_A_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 = sumBlock x0 x1 x2 x3 x4 x5 x6 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 hc1 x0 x1 x2 x3 x4 x5 x6 x7), run_A_10]
  rfl

/-- At the first point of a row: the running sum. -/
theorem out_A_9 (hc0 : cond0_0 i) (hc1 : ¬cond0_1 i) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay1 (sumBlock x0 x1 x2 x3 x4 x5 x6) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  rw [View.canon_unit_zero (funext fun a => by fin_cases a <;> rfl : (![0, 0, 0] : Fin 3 → Nat) = fun _ => 0), readBack_A c i arg2 harg2 arg3 harg3 arg4 harg4 arg5 harg5 arg6 harg6 arg7 harg7 arg8 harg8 arg9 harg9 arg10 harg10 arg11 harg11 arg12 harg12 x0 x1 x2 x3 x4 x5 x6 x7 hc0 hc1]

/-! ## At a later point of a row -/

/-- At a later point of a row: the 19 stores into the `dx` block are the 19 pieces. -/
theorem run_B_8 (hc0 : ¬cond0_0 i) (hc1 : cond0_1 i) (xo9 : Vec F S1x3x2432 .f32) :
    (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9).1 = piecesDx x0 x1 x3 x4 x5 x6 x7 := by
  unfold kernelRun0_B
  dsimp only
  iterate 3 sl_unfold_run_names
  simp only [View.readAt_eq_ld, harg2.read_unread, harg3.read_unread, harg4.read_unread, harg5.read_unread, harg6.read_unread, harg7.read_unread, harg8.read_unread, harg9.read_unread]
  sl_kernel_rfl

/-- At a later point of a row: the 57 stores into the block of partial sums are the 57 pieces. -/
theorem run_B_10 (hc0 : ¬cond0_0 i) (hc1 : cond0_1 i) (xo9 : Vec F S1x3x2432 .f32) :
    (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9).2.2.1 = piecesSum x0 x1 x2 x3 x4 x5 x6 := by
  unfold kernelRun0_B
  dsimp only
  iterate 3 sl_unfold_run_names
  simp only [View.readAt_eq_ld, harg2.read_unread, harg3.read_unread, harg4.read_unread, harg5.read_unread, harg6.read_unread, harg7.read_unread, harg8.read_unread, harg9.read_unread]
  sl_kernel_rfl

/-- At a later point of a row: the block of partial sums read back is the block of those pieces. -/
theorem readBack_B (hc0 : ¬cond0_0 i) (hc1 : cond0_1 i) (xo9 : Vec F S1x3x2432 .f32) :
    kernelRun0_B.sl.v1986 c arg2 harg2 arg3 harg3 arg4 harg4 arg5 harg5 arg6 harg6 arg7 harg7 arg8 harg8 arg12 x0 x1 x2 x3 x4 x5 x6 = sumBlock x0 x1 x2 x3 x4 x5 x6 := by
  have h : kernelRun0_B.sl.v1986 c arg2 harg2 arg3 harg3 arg4 harg4 arg5 harg5 arg6 harg6 arg7 harg7 arg8 harg8 arg12 x0 x1 x2 x3 x4 x5 x6
      = arg12.view.readCov (piecesSum x0 x1 x2 x3 x4 x5 x6) (Rect.unit (s := S1x1x3x2432) ![0, 0, 0, 0] S1x1x3x2432.size inb_S1x1x3x2432_S1x1x3x2432_0_0_0_0).toLoadRect := by
    iterate 3 sl_unfold_run_names
    simp only [View.readAt_eq_ld, harg2.read_unread, harg3.read_unread, harg4.read_unread, harg5.read_unread, harg6.read_unread, harg7.read_unread, harg8.read_unread, harg9.read_unread]
    sl_kernel_rfl
  have hc : ∀ y, ∃ pc ∈ piecesSum x0 x1 x2 x3 x4 x5 x6, y ∈ pc.1.set := fun y => by
    rw [← run_B_10 c i arg2 harg2 arg3 harg3 arg4 harg4 arg5 harg5 arg6 harg6 arg7 harg7 arg8 harg8 arg9 harg9 arg10 harg10 arg11 harg11 arg12 harg12 x0 x1 x2 x3 x4 x5 x6 x7 hc0 hc1 xo9]
    exact cover0_B_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 y
  rw [h, View.readCov_eq_canon_ld _ _ _ hc, View.ld_unit_zero (funext fun a => by fin_cases a <;> rfl : (![0, 0, 0, 0] : Fin 4 → Nat) = fun _ => 0)]
  rfl

/-- At a later point of a row: the `dx` block. -/
theorem out_B_8 (hc0 : ¬cond0_0 i) (hc1 : cond0_1 i) (xo9 : Vec F S1x3x2432 .f32) :
    out0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 = dxBlock x0 x1 x3 x4 x5 x6 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9), run_B_8]
  rfl

/-- At a later point of a row: the block of partial sums. -/
theorem out_B_10 (hc0 : ¬cond0_0 i) (hc1 : cond0_1 i) (xo9 : Vec F S1x3x2432 .f32) :
    out0_B_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 = sumBlock x0 x1 x2 x3 x4 x5 x6 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9), run_B_10]
  rfl

/-- At a later point of a row: the running sum. -/
theorem out_B_9 (hc0 : ¬cond0_0 i) (hc1 : cond0_1 i) (xo9 : Vec F S1x3x2432 .f32) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 = k0_pay2 xo9 (sumBlock x0 x1 x2 x3 x4 x5 x6) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9)]
  unfold kernelRun0_B
  dsimp only
  rw [View.canon_unit_zero (funext fun a => by fin_cases a <;> rfl : (![0, 0, 0] : Fin 3 → Nat) = fun _ => 0), readBack_B c i arg2 harg2 arg3 harg3 arg4 harg4 arg5 harg5 arg6 harg6 arg7 harg7 arg8 harg8 arg9 harg9 arg10 harg10 arg11 harg11 arg12 harg12 x0 x1 x2 x3 x4 x5 x6 x7 hc0 hc1 xo9]
  rw [View.readAt_eq_ld, harg11.read_unread, View.ld_unit_zero (funext fun a => by fin_cases a <;> rfl : (![0, 0, 0] : Fin 3 → Nat) = fun _ => 0)]

end Cert.Block
-- ==== Proof.Consts.lean ====
/-
  THE CONSTANTS of the two programs as extended reals: the kernel multiplies by the constant it names `inv_d`, which is
  1/2432, where the reference divides by the number 2432; over the extended reals these are the same.
-/
module

public import proofs.«01_k».proof.KernelIdeal
public import Idealize.ShloMosaic.Lib.ValueIdx
public import Idealize.ShloMosaic.PureOps.IdealRules

@[expose] public section

noncomputable section

namespace Cert.Consts

open Idealize.ShloMosaic

/-- 1/2432. -/
abbrev invD : EReal := ((1 / 2432 : ℝ) : EReal)

/-- The kernel's named constant is 1/2432. -/
theorem named_invD : (Named.named Cert.KernelIdeal.κ "inv_d" 0x39D79436#32 : Ideal .f32) = invD :=
  IdealRules.named_const.ideal_named_scalar _ _ _ _ rfl

/-- The reference's divisor is 2432. -/
theorem ofBits_d : Ideal.ofBits .f32 0x45180000#32 = ((2432 : ℝ) : EReal) := by
  simp [Ideal.ofBits, Ideal.ieee, -EReal.coe_mul]; norm_num

/-- Dividing by 2432 is multiplying by 1/2432. -/
theorem div_d (s : EReal) : Ideal.div s (Ideal.ofBits .f32 0x45180000#32) = s * invD := by
  rw [ofBits_d, Ideal.div_coe (by norm_num : (2432 : ℝ) ≠ 0)]

end Cert.Consts
-- ==== Proof.Row.lean ====
/-
  THE MATHEMATICS OF ONE TOKEN. A token has 2432 channels; `x`, `dy`, `dh` are its dequantized inputs and `w` is one plus
  the modulation scale, all as functions of the channel. Both programs are shown to compute these functions.
-/
module

public import proofs.«01_k».proof.Proof.Consts

@[expose] public section

noncomputable section

namespace Cert.Row

open Idealize.ShloMosaic Cert.Consts

/-- The mean over the channels: the sum times 1/2432. -/
def mean (v : Fin 2432 → EReal) : EReal := (∑ c, v c) * invD

/-- One over the standard deviation of `x`: `rsqrt (mean ((x - mean x)²) + eps)`. -/
def rstd (x : Fin 2432 → EReal) : EReal :=
  Ideal.rsqrt (mean (fun c => (x c - mean x) * (x c - mean x)) + Ideal.ofBits .f32 0x358637BD#32)

/-- The normalized `x`. -/
def xhat (x : Fin 2432 → EReal) (c : Fin 2432) : EReal := (x c - mean x) * rstd x

/-- `dx` at channel `c`: the layernorm backward of `g = dh * w`, added to `dy`. -/
def dx (x dy dh w : Fin 2432 → EReal) (c : Fin 2432) : EReal :=
  dy c + rstd x * (dh c * w c - mean (fun c => dh c * w c) - xhat x c * mean (fun c => dh c * w c * xhat x c))

end Cert.Row
-- ==== Proof.BlockAt.lean ====
/-
  THE KERNEL'S BLOCKS READ AT AN INDEX, over the extended reals: channel `l` of chunk `j` is channel `128 j + l`, a sum over
  the 19 chunks of the sum over a chunk's 128 channels is the sum over the 2432 channels, and so each block is, element by
  element, the mathematics of Row.lean.
-/
module

public import proofs.«01_k».proof.Proof.Block
public import proofs.«01_k».proof.Proof.Row
public import Idealize.ShloMosaic.Lib.Pointwise

@[expose] public section

noncomputable section

namespace Cert.Block

open Cert.KernelIdeal Cert.KernelIdeal.Gen Idealize.ShloMosaic Idealize.SL.Sem Cert.Consts

/-- Channel `l` of chunk `j`. -/
abbrev chan (j : Fin 19) (l : Fin 128) : Fin 2432 := ⟨j.val * 128 + l.val, by omega⟩
/-- The chunk a channel lies in. -/
abbrev chunkOf (c : Fin 2432) : Fin 19 := ⟨c.val / 128, by omega⟩

theorem chunkOf_chan (j : Fin 19) (l : Fin 128) : chunkOf (chan j l) = j := by
  apply Fin.ext; show (j.val * 128 + l.val) / 128 = j.val; omega

/-- Every channel is channel `l` of some chunk `j`. -/
theorem exists_chan (c : Fin 2432) : ∃ j l, c = chan j l :=
  ⟨chunkOf c, ⟨c.val % 128, by omega⟩, by apply Fin.ext; show c.val = c.val / 128 * 128 + c.val % 128; omega⟩

/-- A sum over the channels, chunk by chunk. -/
theorem sum_chan (f : Fin 2432 → EReal) : ∑ c, f c = ∑ l, ∑ j, f (chan j l) := by
  rw [Finset.sum_comm]; exact Fin.sum_univ_tiles 19 128 rfl f

/-! ## The vector operations at an index -/

/-- A chunk without its leading unit axis, at an index. -/
theorem drop_apply {α : Type} (v : S1x128x128.Idx → α) (r l : Fin 128) :
    shapeCast S128x128 v shapeCasts_S1x128x128_S128x128 (ix2 r l) = v (ix3 0 r l) := by
  refine (shapeCast_dropUnit_apply (n := 2) ![128, 128] v _ (ix2 r l)).trans (congrArg v (funext fun a => ?_))
  match a with
  | ⟨0, _⟩ => rfl
  | ⟨1, _⟩ => rfl
  | ⟨2, _⟩ => rfl

/-- A column of scales beside each channel, at an index. -/
theorem col_apply (v : FVec Ideal S128x1 .f32) (r l : Fin 128) : col v (ix2 r l) = v (ix2 r 0) := by
  pointwise [col]

theorem scale_apply {α : Type} (v : S1x128x1.Idx → α) (r : Fin 128) :
    shapeCast S128x1 v shapeCasts_S1x128x1_S128x1 (ix2 r 0) = v (ix3 0 r 0) := by
  refine (shapeCast_dropUnit_apply (n := 2) ![128, 1] v _ (ix2 r 0)).trans (congrArg v (funext fun a => ?_))
  match a with
  | ⟨0, _⟩ => rfl
  | ⟨1, _⟩ => rfl
  | ⟨2, _⟩ => rfl

/-- Channel `l` of chunk `j`, loaded. -/
theorem ldX_apply {e : EltTy} (a : Vec Ideal S1x128x2432 e) (j : Fin 19) (r l : Fin 128) :
    (View.ld a (rX j) : Vec Ideal S1x128x128 e) (ix3 0 r l) = a (ix3 0 r (chan j l)) := by
  refine congrArg a (funext fun d => Fin.ext ?_)
  match d with
  | ⟨0, _⟩ => rfl
  | ⟨1, _⟩ => show 0 + 1 * r.val = r.val; omega
  | ⟨2, _⟩ => show j.val * 128 + 1 * l.val = j.val * 128 + l.val; omega

/-- The scale of chunk `j`, loaded. -/
theorem ldS_apply (s : Vec Ideal S1x128x19 .f32) (j : Fin 19) (r : Fin 128) :
    (View.ld s (rS j) : Vec Ideal S1x128x1 .f32) (ix3 0 r 0) = s (ix3 0 r j) := by
  refine congrArg s (funext fun d => Fin.ext ?_)
  match d with
  | ⟨0, _⟩ => rfl
  | ⟨1, _⟩ => show 0 + 1 * r.val = r.val; omega
  | ⟨2, _⟩ => show j.val + 1 * 0 = j.val; omega

/-- Channel `l` of chunk `j` of the modulation row, loaded. -/
theorem ldM_apply (w : Vec Ideal S1x1x2432 .f32) (j : Fin 19) (l : Fin 128) :
    (View.ld w (rM j) : Vec Ideal S1x1x128 .f32) (ix3 0 0 l) = w (ix3 0 0 (chan j l)) := by
  refine congrArg w (funext fun d => Fin.ext ?_)
  match d with
  | ⟨0, _⟩ => rfl
  | ⟨1, _⟩ => rfl
  | ⟨2, _⟩ => show j.val * 128 + 1 * l.val = j.val * 128 + l.val; omega

/-- A coded block with its scales multiplied in: token `r`, channel `c`. -/
abbrev deqAt (a : S1x128x2432.Idx → EReal) (s : S1x128x19.Idx → EReal) (r : Fin 128) (c : Fin 2432) : EReal :=
  a (ix3 0 r c) * s (ix3 0 r (chunkOf c))

theorem deq4_apply (a : Vec Ideal S1x128x2432 .fp8e4m3) (s : Vec Ideal S1x128x19 .f32) (j : Fin 19) (r l : Fin 128) :
    deq4 a s j (ix2 r l) = deqAt a s r (chan j l) := by
  rw [deq4, ValueIdx.mulf_apply, ValueIdx.extf_apply, drop_apply, col_apply, scale_apply, ldX_apply, ldS_apply, deqAt, chunkOf_chan]

theorem deq5_apply (a : Vec Ideal S1x128x2432 .fp8e5m2) (s : Vec Ideal S1x128x19 .f32) (j : Fin 19) (r l : Fin 128) :
    deq5 a s j (ix2 r l) = deqAt a s r (chan j l) := by
  rw [deq5, ValueIdx.mulf_apply, ValueIdx.extf_apply, drop_apply, col_apply, scale_apply, ldX_apply, ldS_apply, deqAt, chunkOf_chan]

/-- `1 + scale` at channel `c`. -/
abbrev wAt (m : S1x1x2432.Idx → EReal) (c : Fin 2432) : EReal := Ideal.ofBits .f32 0x3F800000#32 + m (ix3 0 0 c)

theorem wrow_apply (m : Vec Ideal S1x1x2432 .f32) (j : Fin 19) (r l : Fin 128) :
    wrow m j (ix2 r l) = wAt m (chan j l) := by
  unfold wrow
  rw [wAt, ← ldM_apply m j l]
  generalize (View.ld m (rM j) : Vec Ideal S1x1x128 .f32) = v
  pointwise [row]

theorem laneMean_apply (v : FVec Ideal S128x128 .f32) (r : Fin 128) :
    laneMean v (ix2 r 0) = (∑ l, v (ix2 r l)) * invD := by
  pointwise [laneMean, laneSum, named_invD]

theorem tokenSum_apply (v : FVec Ideal S128x128 .f32) (l : Fin 128) :
    tokenSum v (ix4 0 0 0 l) = ∑ r, v (ix2 r l) := by
  pointwise [tokenSum]

/-- Adding the 19 terms one after the other adds their sum. -/
theorem chunks_add (g : Fin 19 → EReal) (a : EReal) : chunks (fun j acc => acc + g j) a = a + ∑ j, g j := by
  simp only [Fin.sum_univ_castSucc, Fin.sum_univ_zero, zero_add, ← add_assoc]
  rfl

/-- Adding the terms of chunks 1 to 18 to that of chunk 0 gives their sum. -/
theorem later_add (g : Fin 19 → EReal) : later (fun j acc => acc + g j) (g 0) = ∑ j, g j := by
  have h := chunks_add g 0
  rw [zero_add] at h
  rw [← h]
  show _ = later (fun j acc => acc + g j) (0 + g 0)
  rw [zero_add]

theorem later_apply (f : Fin 19 → FVec Ideal S128x128 .f32) (i : S128x128.Idx) :
    later (fun j acc => addf acc (f j)) (f 0) i = ∑ j, f j i :=
  later_add fun j => f j i

theorem chunks_apply (f : Fin 19 → FVec Ideal S128x128 .f32) (i : S128x128.Idx) :
    chunks (fun j acc => addf acc (f j)) zeros i = ∑ j, f j i := by
  have h : chunks (fun j acc => addf acc (f j)) zeros i = chunks (fun j acc => acc + f j i) (Ideal.ofBits .f32 0x00000000#32) := rfl
  rw [h, chunks_add, Ideal.ofBits_zero, zero_add]

/-! ## The quantities of a token -/

section Token

variable (x0 : Vec Ideal S1x128x2432 .fp8e4m3) (x1 : Vec Ideal S1x128x19 .f32) (x2 : Vec Ideal S1x128x2432 .bf16)
  (x3 : Vec Ideal S1x128x2432 .fp8e5m2) (x4 : Vec Ideal S1x128x19 .f32) (x5 : Vec Ideal S1x128x2432 .fp8e5m2)
  (x6 : Vec Ideal S1x128x19 .f32) (x7 : Vec Ideal S1x1x2432 .f32) (r : Fin 128)

/-- The mean over the channels of a quantity accumulated chunk by chunk. -/
theorem mean_chunks (f : Fin 19 → FVec Ideal S128x128 .f32) (g : Fin 2432 → EReal)
    (h : ∀ j l, f j (ix2 r l) = g (chan j l)) :
    laneMean (chunks (fun j acc => addf acc (f j)) zeros) (ix2 r 0) = Row.mean g := by
  rw [laneMean_apply, Row.mean, sum_chan]
  simp only [chunks_apply, h]

theorem mu_apply : mu x0 x1 (ix2 r 0) = Row.mean (deqAt x0 x1 r) := by
  have h := fun l => later_apply (deq4 x0 x1) (ix2 r l)
  rw [mu, laneMean_apply, Row.mean, sum_chan]
  exact congrArg (· * invD) (Finset.sum_congr rfl fun l _ =>
    (h l).trans (Finset.sum_congr rfl fun j _ => deq4_apply x0 x1 j r l))

theorem cen_apply (j : Fin 19) (l : Fin 128) :
    cen x0 x1 j (ix2 r l) = deqAt x0 x1 r (chan j l) - Row.mean (deqAt x0 x1 r) := by
  rw [cen, ValueIdx.subf_apply, deq4_apply, col_apply, mu_apply]

theorem rstd_apply : rstd x0 x1 (ix2 r 0) = Row.rstd (deqAt x0 x1 r) := by
  rw [rstd, Row.rstd, ← mean_chunks r (fun j => mulf (cen x0 x1 j) (cen x0 x1 j)) _
    (fun j l => by rw [ValueIdx.mulf_apply, cen_apply])]
  rfl

theorem xhat_apply (j : Fin 19) (l : Fin 128) : xhat x0 x1 j (ix2 r l) = Row.xhat (deqAt x0 x1 r) (chan j l) := by
  rw [xhat, ValueIdx.mulf_apply, cen_apply, col_apply, rstd_apply, Row.xhat]

theorem mg_apply : mg x5 x6 x7 (ix2 r 0) = Row.mean (fun c => deqAt x5 x6 r c * wAt x7 c) := by
  rw [mg]
  exact mean_chunks r _ _ (fun j l => by rw [ValueIdx.mulf_apply, deq5_apply, wrow_apply])

theorem mgx_apply : mgx x0 x1 x5 x6 x7 (ix2 r 0)
    = Row.mean (fun c => deqAt x5 x6 r c * wAt x7 c * Row.xhat (deqAt x0 x1 r) c) := by
  rw [mgx]
  exact mean_chunks r _ _ (fun j l => by
    rw [hx, ValueIdx.mulf_apply, ValueIdx.mulf_apply, deq5_apply, wrow_apply, xhat_apply, mul_right_comm])

/-- A chunk of `dx` at token `r`, channel `l`. -/
theorem dx_apply (j : Fin 19) (l : Fin 128) : dx x0 x1 x3 x4 x5 x6 x7 j (ix3 0 r l)
    = Row.dx (deqAt x0 x1 r) (deqAt x3 x4 r) (deqAt x5 x6 r) (wAt x7) (chan j l) := by
  rw [Row.dx, ← deq5_apply x3 x4, ← deq5_apply x5 x6, ← xhat_apply, ← rstd_apply, ← mg_apply, ← mgx_apply, ← wrow_apply x7 j r l,
    dx, ← col_apply (rstd x0 x1) r l, ← col_apply (mg x5 x6 x7) r l, ← col_apply (mgx x0 x1 x5 x6 x7) r l]
  refine (shapeCast_addUnit_apply (n := 2) ![128, 128] _ _ (ix3 0 r l)).trans ?_
  have e : (fun a : Fin 2 => (ix3 0 r l : S1x128x128.Idx) a.succ) = (ix2 r l : S128x128.Idx) := funext fun a =>
    match a with
    | ⟨0, _⟩ => rfl
    | ⟨1, _⟩ => rfl
  rw [e]
  rfl

theorem sh_apply (j : Fin 19) (l : Fin 128) : sh x5 x6 j (ix4 0 0 0 l) = ∑ r, deqAt x5 x6 r (chan j l) := by
  rw [sh, tokenSum_apply]
  exact Finset.sum_congr rfl fun r _ => deq5_apply x5 x6 j r l

theorem shx_apply (j : Fin 19) (l : Fin 128) : shx x0 x1 x5 x6 j (ix4 0 0 0 l)
    = ∑ r, deqAt x5 x6 r (chan j l) * Row.xhat (deqAt x0 x1 r) (chan j l) := by
  rw [shx, tokenSum_apply]
  exact Finset.sum_congr rfl fun r _ => by rw [hx, ValueIdx.mulf_apply, deq5_apply, xhat_apply]

theorem syf_apply (j : Fin 19) (l : Fin 128) : syf x2 x3 x4 j (ix4 0 0 0 l)
    = ∑ r, deqAt x3 x4 r (chan j l) * x2 (ix3 0 r (chan j l)) := by
  rw [syf, tokenSum_apply]
  exact Finset.sum_congr rfl fun r _ => by rw [ValueIdx.mulf_apply, deq5_apply, ValueIdx.extf_apply, drop_apply, ldX_apply]

end Token

end Cert.Block
-- ==== Proof.BlockWhole.lean ====
/-
  THE WHOLE BLOCKS, element by element: every element of the `dx` block lies in the piece of its chunk, and every element of
  the block of partial sums in the piece of its row and chunk, so each block is one function of the index.
-/
module

public import proofs.«01_k».proof.Proof.BlockAt

@[expose] public section

noncomputable section

namespace Cert.Block

open Cert.KernelIdeal Cert.KernelIdeal.Gen Idealize.ShloMosaic Idealize.SL.Sem Cert.Consts

/-- One entry put down per chunk: the entries are those of the chunks. -/
theorem mem_chunks {A : Type} (P : Fin 19 → A) (p : A) : p ∈ chunks (fun j L => P j :: L) [] ↔ ∃ j, P j = p := by
  have h : chunks (fun j L => P j :: L) [] = (List.ofFn P).reverse := rfl
  rw [h, List.mem_reverse, List.mem_ofFn]

/-- Three entries put down per chunk. -/
theorem mem_chunks₃ {A : Type} (P : Fin 3 → Fin 19 → A) (p : A) :
    p ∈ chunks (fun j L => P 2 j :: P 1 j :: P 0 j :: L) [] ↔ ∃ k j, P k j = p := by
  have h : chunks (fun j L => P 2 j :: P 1 j :: P 0 j :: L) [] = (List.ofFn fun j => [P 2 j, P 1 j, P 0 j]).reverse.flatten := rfl
  rw [h, List.mem_flatten]
  simp only [List.mem_reverse, List.mem_ofFn]
  constructor
  · rintro ⟨l, ⟨j, rfl⟩, hp⟩
    simp only [List.mem_cons, List.not_mem_nil, or_false] at hp
    rcases hp with rfl | rfl | rfl
    exacts [⟨2, j, rfl⟩, ⟨1, j, rfl⟩, ⟨0, j, rfl⟩]
  · rintro ⟨k, j, rfl⟩
    refine ⟨_, ⟨j, rfl⟩, ?_⟩
    fin_cases k <;> simp

theorem embX (j : Fin 19) (r l : Fin 128) : (rX j).emb (ix3 0 r l) = ix3 0 r (chan j l) := by
  refine funext fun d => Fin.ext ?_
  match d with
  | ⟨0, _⟩ => rfl
  | ⟨1, _⟩ => show 0 + 1 * r.val = r.val; omega
  | ⟨2, _⟩ => show j.val * 128 + 1 * l.val = j.val * 128 + l.val; omega

theorem embR (k : Fin 3) (j : Fin 19) (l : Fin 128) : (rR k j).emb (ix4 0 0 0 l) = ix4 0 0 k (chan j l) := by
  refine funext fun d => Fin.ext ?_
  match d with
  | ⟨0, _⟩ => rfl
  | ⟨1, _⟩ => rfl
  | ⟨2, _⟩ => show k.val + 1 * 0 = k.val; omega
  | ⟨3, _⟩ => show j.val * 128 + 1 * l.val = j.val * 128 + l.val; omega

/-- A rectangle holds where it puts its indices. -/
theorem emb_mem {s : Shape} (r : Rect s) (x : r.shape.Idx) : r.emb x ∈ r.set := by
  rw [← Rect.map_emb_univ]; exact Finset.mem_map_of_mem _ (Finset.mem_univ x)

variable (x0 : Vec Ideal S1x128x2432 .fp8e4m3) (x1 : Vec Ideal S1x128x19 .f32) (x2 : Vec Ideal S1x128x2432 .bf16)
  (x3 : Vec Ideal S1x128x2432 .fp8e5m2) (x4 : Vec Ideal S1x128x19 .f32) (x5 : Vec Ideal S1x128x2432 .fp8e5m2)
  (x6 : Vec Ideal S1x128x19 .f32) (x7 : Vec Ideal S1x1x2432 .f32)

/-- The `dx` block at token `r`, channel `c`. -/
theorem dxBlock_apply (r : Fin 128) (c : Fin 2432) : dxBlock x0 x1 x3 x4 x5 x6 x7 (ix3 0 r c)
    = Row.dx (deqAt x0 x1 r) (deqAt x3 x4 r) (deqAt x5 x6 r) (wAt x7) c := by
  obtain ⟨j, l, rfl⟩ := exists_chan c
  refine (View.canon_apply_of_pieces
    (fun y : S1x128x2432.Idx => Row.dx (deqAt x0 x1 (y 1)) (deqAt x3 x4 (y 1)) (deqAt x5 x6 (y 1)) (wAt x7) (y 2)) _ ?_ _
    ⟨_, (mem_chunks (fun j => (⟨rX j, dx x0 x1 x3 x4 x5 x6 x7 j⟩ : View.Piece (Elt Ideal) S1x128x2432 .bf16)) _).mpr ⟨j, rfl⟩, ?_⟩).trans rfl
  · intro p hp x
    obtain ⟨j, rfl⟩ := (mem_chunks (fun j => (⟨rX j, dx x0 x1 x3 x4 x5 x6 x7 j⟩ : View.Piece (Elt Ideal) S1x128x2432 .bf16)) p).mp hp
    have hx : ∀ z : S1x128x128.Idx, ∃ r l : Fin 128, z = ix3 (0 : Fin 1) r l := fun z => ⟨z 1, z 2, by
      refine (ValueIdx.eq_ix3 (n0 := 1) (n1 := 128) (n2 := 128) z).trans (funext fun d => ?_)
      match d with
      | ⟨0, _⟩ => exact Subsingleton.elim (α := Fin 1) _ _
      | ⟨1, _⟩ => rfl
      | ⟨2, _⟩ => rfl⟩
    obtain ⟨r, l, rfl⟩ := hx x
    show _ = (fun y : S1x128x2432.Idx => Row.dx (deqAt x0 x1 (y 1)) (deqAt x3 x4 (y 1)) (deqAt x5 x6 (y 1)) (wAt x7) (y 2))
      ((rX j).emb (ix3 0 r l))
    rw [embX]
    exact dx_apply x0 x1 x3 x4 x5 x6 x7 r j l
  · rw [← embX]; exact emb_mem _ _

/-- The block of partial sums as one function: row 0 sums `dh`, row 1 `dh * xhat`, row 2 `dy * f` over the block's tokens. -/
def sumAt (k : Fin 3) (c : Fin 2432) : EReal :=
  match k with
  | 0 => ∑ r, deqAt x5 x6 r c
  | 1 => ∑ r, deqAt x5 x6 r c * Row.xhat (deqAt x0 x1 r) c
  | 2 => ∑ r, deqAt x3 x4 r c * x2 (ix3 0 r c)

/-- The piece of row `k`, chunk `j` of the block of partial sums. -/
abbrev rowPiece (k : Fin 3) (j : Fin 19) : View.Piece (Elt Ideal) S1x1x3x2432 .f32 :=
  match k with
  | 0 => ⟨rR 0 j, sh x5 x6 j⟩
  | 1 => ⟨rR 1 j, shx x0 x1 x5 x6 j⟩
  | 2 => ⟨rR 2 j, syf x2 x3 x4 j⟩

/-- The block of partial sums at row `k`, channel `c`. -/
theorem sumBlock_apply (k : Fin 3) (c : Fin 2432) : sumBlock x0 x1 x2 x3 x4 x5 x6 (ix4 0 0 k c) = sumAt x0 x1 x2 x3 x4 x5 x6 k c := by
  obtain ⟨j, l, rfl⟩ := exists_chan c
  have hm := mem_chunks₃ (rowPiece x0 x1 x2 x3 x4 x5 x6)
  refine (View.canon_apply_of_pieces
    (fun y : S1x1x3x2432.Idx => sumAt x0 x1 x2 x3 x4 x5 x6 (y 2) (y 3)) _ ?_ _ ⟨_, (hm _).mpr ⟨k, j, rfl⟩, ?_⟩).trans rfl
  · intro p hp x
    obtain ⟨k, j, rfl⟩ := (hm p).mp hp
    have hx : ∀ z : S1x1x1x128.Idx, ∃ l : Fin 128, z = ix4 (0 : Fin 1) (0 : Fin 1) (0 : Fin 1) l := fun z => ⟨z 3, by
      refine (ValueIdx.eq_ix4 (n0 := 1) (n1 := 1) (n2 := 1) (n3 := 128) z).trans (funext fun d => ?_)
      match d with
      | ⟨0, _⟩ => exact Subsingleton.elim (α := Fin 1) _ _
      | ⟨1, _⟩ => exact Subsingleton.elim (α := Fin 1) _ _
      | ⟨2, _⟩ => exact Subsingleton.elim (α := Fin 1) _ _
      | ⟨3, _⟩ => rfl⟩
    fin_cases k
    · obtain ⟨l, rfl⟩ := hx x
      show _ = (fun y : S1x1x3x2432.Idx => sumAt x0 x1 x2 x3 x4 x5 x6 (y 2) (y 3)) ((rR 0 j).emb (ix4 0 0 0 l))
      rw [embR]
      exact sh_apply x5 x6 j l
    · obtain ⟨l, rfl⟩ := hx x
      show _ = (fun y : S1x1x3x2432.Idx => sumAt x0 x1 x2 x3 x4 x5 x6 (y 2) (y 3)) ((rR 1 j).emb (ix4 0 0 0 l))
      rw [embR]
      exact shx_apply x0 x1 x5 x6 j l
    · obtain ⟨l, rfl⟩ := hx x
      show _ = (fun y : S1x1x3x2432.Idx => sumAt x0 x1 x2 x3 x4 x5 x6 (y 2) (y 3)) ((rR 2 j).emb (ix4 0 0 0 l))
      rw [embR]
      exact syf_apply x2 x3 x4 j l
  · fin_cases k
    exacts [(embR 0 j l) ▸ emb_mem _ _, (embR 1 j l) ▸ emb_mem _ _, (embR 2 j l) ▸ emb_mem _ _]

end Cert.Block
-- ==== Proof.Spec.lean ====
/-
  THE MATHEMATICS OF THE WHOLE ARRAYS, in terms of the eight arguments as functions of their indices: `x`, `dy`, `dh` are
  codes with one scale for every 128 channels, `f` is the layer's output, `ms` the modulation scale. Both programs are
  shown to end with these functions in their result arrays.
-/
module

public import proofs.«01_k».proof.Proof.BlockAt

@[expose] public section

noncomputable section

namespace Cert.Spec

open Idealize.ShloMosaic Cert.Block

/-- An array over batch, token, channel. -/
abbrev Tok := (⟨3, ![2, 1024, 2432]⟩ : Shape).Idx → EReal
/-- An array over batch, token, chunk of 128 channels. -/
abbrev Scl := (⟨3, ![2, 1024, 19]⟩ : Shape).Idx → EReal
/-- An array over batch, channel. -/
abbrev Mod := (⟨2, ![2, 2432]⟩ : Shape).Idx → EReal

/-- The codes `a` with the scales `s` multiplied in. -/
def deq (a : Tok) (s : Scl) (b : Fin 2) (t : Fin 1024) (c : Fin 2432) : EReal := a (ix3 b t c) * s (ix3 b t (chunkOf c))

/-- One plus the modulation scale. -/
def wt (ms : Mod) (b : Fin 2) (c : Fin 2432) : EReal := Ideal.ofBits .f32 0x3F800000#32 + ms (ix2 b c)

/-- Token `r` of the token block `j`. -/
abbrev tok (j : Fin 8) (r : Fin 128) : Fin 1024 := ⟨j.val * 128 + r.val, by omega⟩

variable (x : Tok) (xs : Scl) (f : Tok) (dy : Tok) (dys : Scl) (dh : Tok) (dhs : Scl) (ms : Mod)

/-- The gradient of the layer's input. -/
def dx (b : Fin 2) (t : Fin 1024) (c : Fin 2432) : EReal :=
  Row.dx (deq x xs b t) (deq dy dys b t) (deq dh dhs b t) (wt ms b) c

/-- The modulation gradients of one block of 128 tokens: shift (row 0), scale (row 1), gate (row 2). -/
def blockSum (b : Fin 2) (j : Fin 8) (k : Fin 3) (c : Fin 2432) : EReal :=
  match k with
  | 0 => ∑ r, deq dh dhs b (tok j r) c
  | 1 => ∑ r, deq dh dhs b (tok j r) c * Row.xhat (deq x xs b (tok j r)) c
  | 2 => ∑ r, deq dy dys b (tok j r) c * f (ix3 b (tok j r) c)

/-- The modulation gradients of a batch: the eight blocks' added up. -/
def total (b : Fin 2) (k : Fin 3) (c : Fin 2432) : EReal := ∑ j, blockSum x xs f dy dys dh dhs b j k c

end Cert.Spec

end
-- ==== Proof.Points.lean ====
/-
  THE KERNEL'S GRID POINTS. What the three output buffers hold after each point: the `dx` block and the block of partial
  sums of the point's own inputs, and in the second output the partial sums of the row's points so far, added up.
-/
module

public import proofs.«01_k».proof.Proof.Pieces
public import proofs.«01_k».proof.Proof.BlockWhole
public import proofs.«01_k».proof.Proof.Spec
public import proofs.«01_k».proof.Proof.Gen.KernelIdeal.Value

@[expose] public section

noncomputable section

namespace Cert.Points

open Cert.KernelIdeal Cert.KernelIdeal.Gen Cert.Block Idealize.ShloMosaic Idealize.ShloMosaic.TcCoe Idealize.SL.Sem

variable (m : (ℓ : Loc nD τ sig) → Buf (Elt Ideal) ℓ)

/-- The `dx` block after any point. -/
theorem outs_8 (c : Dev nD) (t : Fin cfg0.N) : (outsAt0 m c t.val t.isLt).1
    = dxBlock (iblk m c 0 t) (iblk m c 1 t) (iblk m c 3 t) (iblk m c 4 t) (iblk m c 5 t) (iblk m c 6 t) (iblk m c 7 t) := by
  by_cases h0 : t.val % 8 = 0
  · have h1 : ¬1 ≤ t.val % 8 := by omega
    rw [outsAt0_A m c t h0 h1]
    dsimp only
    exact out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))
  · have h1 : 1 ≤ t.val % 8 := by omega
    rw [outsAt0_B m c t h0 h1]
    dsimp only
    exact out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (iblk m c 0 t) (iblk m c 1 t) (iblk m c 2 t) (iblk m c 3 t) (iblk m c 4 t) (iblk m c 5 t) (iblk m c 6 t) (iblk m c 7 t) (fun h => h0 ((hcond0_0 t).mp h)) ((hcond0_1 t).mpr h1)
      (outsAt0 m c (t.val - 1) (Nat.lt_of_le_of_lt (Nat.sub_le _ _) t.isLt)).2.1

/-- The block of partial sums after any point. -/
theorem outs_10 (c : Dev nD) (t : Fin cfg0.N) : (outsAt0 m c t.val t.isLt).2.2
    = sumBlock (iblk m c 0 t) (iblk m c 1 t) (iblk m c 2 t) (iblk m c 3 t) (iblk m c 4 t) (iblk m c 5 t) (iblk m c 6 t) := by
  by_cases h0 : t.val % 8 = 0
  · have h1 : ¬1 ≤ t.val % 8 := by omega
    rw [outsAt0_A m c t h0 h1]
    dsimp only
    exact out_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))
  · have h1 : 1 ≤ t.val % 8 := by omega
    rw [outsAt0_B m c t h0 h1]
    dsimp only
    exact out_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (iblk m c 0 t) (iblk m c 1 t) (iblk m c 2 t) (iblk m c 3 t) (iblk m c 4 t) (iblk m c 5 t) (iblk m c 6 t) (iblk m c 7 t) (fun h => h0 ((hcond0_0 t).mp h)) ((hcond0_1 t).mpr h1)
      (outsAt0 m c (t.val - 1) (Nat.lt_of_le_of_lt (Nat.sub_le _ _) t.isLt)).2.1

/-- The accumulator after the first point of a row. -/
theorem outs_9_first (c : Dev nD) (t : Fin cfg0.N) (h0 : t.val % 8 = 0) : (outsAt0 m c t.val t.isLt).2.1
    = k0_pay1 (sumBlock (iblk m c 0 t) (iblk m c 1 t) (iblk m c 2 t) (iblk m c 3 t) (iblk m c 4 t) (iblk m c 5 t) (iblk m c 6 t)) := by
  have h1 : ¬1 ≤ t.val % 8 := by omega
  rw [outsAt0_A m c t h0 h1]
  dsimp only
  exact out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))

/-- The accumulator after a later point of a row, over what the point before left. -/
theorem outs_9_later (c : Dev nD) (t : Fin cfg0.N) (h0 : ¬t.val % 8 = 0) : (outsAt0 m c t.val t.isLt).2.1
    = k0_pay2 (outsAt0 m c (t.val - 1) (Nat.lt_of_le_of_lt (Nat.sub_le _ _) t.isLt)).2.1
      (sumBlock (iblk m c 0 t) (iblk m c 1 t) (iblk m c 2 t) (iblk m c 3 t) (iblk m c 4 t) (iblk m c 5 t) (iblk m c 6 t)) := by
  have h1 : 1 ≤ t.val % 8 := by omega
  rw [outsAt0_B m c t h0 h1]
  dsimp only
  exact out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) (iblk m c 7 t) (fun h => h0 ((hcond0_0 t).mp h)) ((hcond0_1 t).mpr h1)
    (outsAt0 m c (t.val - 1) (Nat.lt_of_le_of_lt (Nat.sub_le _ _) t.isLt)).2.1

/-- The block of partial sums without its leading unit axes, at an index. -/
theorem drop2_apply (v : S1x1x3x2432.Idx → EReal) (k : Fin 3) (ch : Fin 2432) :
    shapeCast S3x2432 v shapeCasts_S1x1x3x2432_S3x2432 (ix2 k ch) = v (ix4 0 0 k ch) := by
  pointwise

theorem pay1_apply (v : Vec Ideal S1x1x3x2432 .f32) (k : Fin 3) (ch : Fin 2432) :
    k0_pay1 v (ix3 0 k ch) = v (ix4 0 0 k ch) := by
  pointwise [k0_pay1]

theorem pay2_apply (a : Vec Ideal S1x3x2432 .f32) (v : Vec Ideal S1x1x3x2432 .f32) (k : Fin 3) (ch : Fin 2432) :
    k0_pay2 a v (ix3 0 k ch) = a (ix3 0 k ch) + v (ix4 0 0 k ch) := by
  pointwise [k0_pay2]

end Cert.Points

end
-- ==== Proof.Arrays.lean ====
/-
  THE KERNEL'S RESULT ARRAYS. The input blocks of grid point `8 b + j` are batch `b`, tokens `128 j` to `128 j + 127` of the
  argument arrays, so what the points leave are the functions of Spec.lean; the points' blocks cover each result array.
-/
module

public import proofs.«01_k».proof.Proof.Points
public import Idealize.ShloMosaic.Lib.Pipeline.ValueKit.Geometry

@[expose] public section

noncomputable section

namespace Cert.Arrays

open Cert.KernelIdeal Cert.KernelIdeal.Gen Cert.Block Cert.Points Idealize.ShloMosaic Idealize.ShloMosaic.TcCoe Idealize.SL.Sem

variable (m : (ℓ : Loc nD τ sig) → Buf (Elt Ideal) ℓ)

/-! ## Where a point's blocks lie -/

/-- The batch of a grid point. -/
abbrev bat (t : Fin cfg0.N) : Fin 2 := ⟨t.val / 8, by have := t.isLt; have : cfg0.N = 16 := N_0; omega⟩
/-- The token block of a grid point. -/
abbrev blk (t : Fin cfg0.N) : Fin 8 := ⟨t.val % 8, by omega⟩

theorem index_0 : ∀ t : Fin grid0.N, win0_0.index t = ![t.val / 8, t.val % 8, 0] := by decide +kernel
theorem index_1 : ∀ t : Fin grid0.N, win0_1.index t = ![t.val / 8, t.val % 8, 0] := by decide +kernel
theorem index_2 : ∀ t : Fin grid0.N, win0_2.index t = ![t.val / 8, t.val % 8, 0] := by decide +kernel
theorem index_3 : ∀ t : Fin grid0.N, win0_3.index t = ![t.val / 8, t.val % 8, 0] := by decide +kernel
theorem index_4 : ∀ t : Fin grid0.N, win0_4.index t = ![t.val / 8, t.val % 8, 0] := by decide +kernel
theorem index_5 : ∀ t : Fin grid0.N, win0_5.index t = ![t.val / 8, t.val % 8, 0] := by decide +kernel
theorem index_6 : ∀ t : Fin grid0.N, win0_6.index t = ![t.val / 8, t.val % 8, 0] := by decide +kernel
theorem index_7 : ∀ t : Fin grid0.N, win0_7.index t = ![t.val / 8, 0, 0] := by decide +kernel
theorem index_8 : ∀ t : Fin grid0.N, win0_8.index t = ![t.val / 8, t.val % 8, 0] := by decide +kernel
theorem index_9 : ∀ t : Fin grid0.N, win0_9.index t = ![t.val / 8, 0, 0] := by decide +kernel
theorem index_10 : ∀ t : Fin grid0.N, win0_10.index t = ![t.val / 8, t.val % 8, 0, 0] := by decide +kernel

/-- Where block `(b, j, 0)` of `[1, 128, n]` puts token `r`, entry `l`: at batch `b`, token `128 j + r`. -/
theorem place3 {n : Nat} (t : Fin cfg0.N) {ix : Fin 3 → Nat} (hix : ix = ![t.val / 8, t.val % 8, 0]) (r : Fin 128) (l : Fin n)
    (e : (⟨3, ![2, 1024, n]⟩ : Shape).Idx) (he : ∀ a, (e a).val = ix a * (![1, 128, n] : Fin 3 → Nat) a + 1 * ((ix3 (0 : Fin 1) r l : (⟨3, ![1, 128, n]⟩ : Shape).Idx) a).val) :
    e = ix3 (bat t) (Spec.tok (blk t) r) l := by
  subst hix
  refine funext fun a => Fin.ext ((he a).trans ?_)
  match a with
  | ⟨0, _⟩ => show t.val / 8 * 1 + 1 * 0 = t.val / 8; omega
  | ⟨1, _⟩ => show t.val % 8 * 128 + 1 * r.val = t.val % 8 * 128 + r.val; omega
  | ⟨2, _⟩ => show 0 * n + 1 * l.val = l.val; omega

theorem iblk_0 (c : Dev nD) (t : Fin cfg0.N) (r : Fin 128) (ch : Fin 2432) :
    (iblk m c 0 t : Vec Ideal S1x128x2432 .fp8e4m3) (ix3 0 r ch) = m ((c : Thread nD τ).loc main_arg0) (ix3 (bat t) (Spec.tok (blk t) r) ch) :=
  (congrFun (V_main_arg0 m c) _).trans (congrArg (m ((c : Thread nD τ).loc main_arg0)) (place3 t (index_0 t) r ch _ fun _ => rfl))
theorem iblk_1 (c : Dev nD) (t : Fin cfg0.N) (r : Fin 128) (j : Fin 19) :
    (iblk m c 1 t : Vec Ideal S1x128x19 .f32) (ix3 0 r j) = m ((c : Thread nD τ).loc main_arg1) (ix3 (bat t) (Spec.tok (blk t) r) j) :=
  (congrFun (V_main_arg1 m c) _).trans (congrArg (m ((c : Thread nD τ).loc main_arg1)) (place3 t (index_1 t) r j _ fun _ => rfl))
theorem iblk_2 (c : Dev nD) (t : Fin cfg0.N) (r : Fin 128) (ch : Fin 2432) :
    (iblk m c 2 t : Vec Ideal S1x128x2432 .bf16) (ix3 0 r ch) = m ((c : Thread nD τ).loc main_arg2) (ix3 (bat t) (Spec.tok (blk t) r) ch) :=
  (congrFun (V_main_arg2 m c) _).trans (congrArg (m ((c : Thread nD τ).loc main_arg2)) (place3 t (index_2 t) r ch _ fun _ => rfl))
theorem iblk_3 (c : Dev nD) (t : Fin cfg0.N) (r : Fin 128) (ch : Fin 2432) :
    (iblk m c 3 t : Vec Ideal S1x128x2432 .fp8e5m2) (ix3 0 r ch) = m ((c : Thread nD τ).loc main_arg3) (ix3 (bat t) (Spec.tok (blk t) r) ch) :=
  (congrFun (V_main_arg3 m c) _).trans (congrArg (m ((c : Thread nD τ).loc main_arg3)) (place3 t (index_3 t) r ch _ fun _ => rfl))
theorem iblk_4 (c : Dev nD) (t : Fin cfg0.N) (r : Fin 128) (j : Fin 19) :
    (iblk m c 4 t : Vec Ideal S1x128x19 .f32) (ix3 0 r j) = m ((c : Thread nD τ).loc main_arg4) (ix3 (bat t) (Spec.tok (blk t) r) j) :=
  (congrFun (V_main_arg4 m c) _).trans (congrArg (m ((c : Thread nD τ).loc main_arg4)) (place3 t (index_4 t) r j _ fun _ => rfl))
theorem iblk_5 (c : Dev nD) (t : Fin cfg0.N) (r : Fin 128) (ch : Fin 2432) :
    (iblk m c 5 t : Vec Ideal S1x128x2432 .fp8e5m2) (ix3 0 r ch) = m ((c : Thread nD τ).loc main_arg5) (ix3 (bat t) (Spec.tok (blk t) r) ch) :=
  (congrFun (V_main_arg5 m c) _).trans (congrArg (m ((c : Thread nD τ).loc main_arg5)) (place3 t (index_5 t) r ch _ fun _ => rfl))
theorem iblk_6 (c : Dev nD) (t : Fin cfg0.N) (r : Fin 128) (j : Fin 19) :
    (iblk m c 6 t : Vec Ideal S1x128x19 .f32) (ix3 0 r j) = m ((c : Thread nD τ).loc main_arg6) (ix3 (bat t) (Spec.tok (blk t) r) j) :=
  (congrFun (V_main_arg6 m c) _).trans (congrArg (m ((c : Thread nD τ).loc main_arg6)) (place3 t (index_6 t) r j _ fun _ => rfl))

/-- The modulation scale with a unit axis in the middle, at an index. -/
theorem mid_apply (v : S2x2432.Idx → EReal) (b : Fin 2) (ch : Fin 2432) :
    shapeCast S2x1x2432 v shapeCasts_S2x2432_S2x1x2432 (ix3 b 0 ch) = v (ix2 b ch) := by
  pointwise

/-- The array the last input window stages is the modulation scale with a unit axis in the middle. -/
theorem V_v0 (c : Dev nD) : (V m c main_v0 : Vec Ideal S2x1x2432 .f32)
    = shapeCast S2x1x2432 (m ((c : Thread nD τ).loc main_arg7)) shapeCasts_S2x2432_S2x1x2432 := by
  show (StableHlo.reshape main_arg7 main_v0 (rfl : (.f32 : EltTy) = .f32) shapeCasts_S2x2432_S2x1x2432).result (fun b => m (c, b)) (Proc.devRef .tc main_v0) = _
  rw [StableHlo.reshape_result']
  rfl

theorem iblk_7 (c : Dev nD) (t : Fin cfg0.N) (ch : Fin 2432) :
    (iblk m c 7 t : Vec Ideal S1x1x2432 .f32) (ix3 0 0 ch) = m ((c : Thread nD τ).loc main_arg7) (ix2 (bat t) ch) := by
  have h : ((cfg0.win 7).blk t).view.emb (ix3 (0 : Fin 1) (0 : Fin 1) ch) = (ix3 (bat t) (0 : Fin 1) ch : S2x1x2432.Idx) := by
    refine funext fun a => Fin.ext ?_
    have hi := congrFun (index_7 t) a
    match a with
    | ⟨0, _⟩ => show win0_7.index t 0 * 1 + 1 * 0 = t.val / 8; rw [index_7]; show t.val / 8 * 1 + 1 * 0 = _; omega
    | ⟨1, _⟩ => show win0_7.index t 1 * 1 + 1 * 0 = 0; rw [index_7]; rfl
    | ⟨2, _⟩ => show win0_7.index t 2 * 2432 + 1 * ch.val = ch.val; rw [index_7]; show 0 * 2432 + 1 * ch.val = _; omega
  show (V m c main_v0 : Vec Ideal S2x1x2432 .f32) (((cfg0.win 7).blk t).view.emb (ix3 (0 : Fin 1) (0 : Fin 1) ch)) = _
  rw [h, V_v0, mid_apply]

/-! ## What a point computes, from the argument arrays -/

/-- The gradient of the layer's input, of the kernel's arguments. -/
abbrev dxOf (c : Dev nD) (b : Fin 2) (t : Fin 1024) (ch : Fin 2432) : EReal :=
  Spec.dx (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7)) b t ch
/-- The modulation gradients of one token block, of the kernel's arguments. -/
abbrev blockSumOf (c : Dev nD) (b : Fin 2) (j : Fin 8) (k : Fin 3) (ch : Fin 2432) : EReal :=
  Spec.blockSum (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) b j k ch
/-- The modulation gradients of a batch, of the kernel's arguments. -/
abbrev totalOf (c : Dev nD) (b : Fin 2) (k : Fin 3) (ch : Fin 2432) : EReal :=
  Spec.total (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) b k ch

/-- The dequantized blocks of a point are rows of the dequantized arrays. -/
theorem deqAt_x (c : Dev nD) (t : Fin cfg0.N) (r : Fin 128) : deqAt (iblk m c 0 t) (iblk m c 1 t) r
    = Spec.deq (m ((c : Thread nD τ).loc main_arg0)) (m ((c : Thread nD τ).loc main_arg1)) (bat t) (Spec.tok (blk t) r) :=
  funext fun ch => congrArg₂ (· * ·) (iblk_0 m c t r ch) (iblk_1 m c t r (chunkOf ch))
theorem deqAt_dy (c : Dev nD) (t : Fin cfg0.N) (r : Fin 128) : deqAt (iblk m c 3 t) (iblk m c 4 t) r
    = Spec.deq (m ((c : Thread nD τ).loc main_arg3)) (m ((c : Thread nD τ).loc main_arg4)) (bat t) (Spec.tok (blk t) r) :=
  funext fun ch => congrArg₂ (· * ·) (iblk_3 m c t r ch) (iblk_4 m c t r (chunkOf ch))
theorem deqAt_dh (c : Dev nD) (t : Fin cfg0.N) (r : Fin 128) : deqAt (iblk m c 5 t) (iblk m c 6 t) r
    = Spec.deq (m ((c : Thread nD τ).loc main_arg5)) (m ((c : Thread nD τ).loc main_arg6)) (bat t) (Spec.tok (blk t) r) :=
  funext fun ch => congrArg₂ (· * ·) (iblk_5 m c t r ch) (iblk_6 m c t r (chunkOf ch))
theorem wAt_ms (c : Dev nD) (t : Fin cfg0.N) : wAt (iblk m c 7 t) = Spec.wt (m ((c : Thread nD τ).loc main_arg7)) (bat t) :=
  funext fun ch => congrArg (Ideal.ofBits .f32 0x3F800000#32 + ·) (iblk_7 m c t ch)

/-- What a point leaves in its `dx` block. -/
theorem point_dx (c : Dev nD) (t : Fin cfg0.N) (r : Fin 128) (ch : Fin 2432) :
    (outsAt0 m c t.val t.isLt).1 (ix3 0 r ch) = dxOf m c (bat t) (Spec.tok (blk t) r) ch := by
  rw [outs_8, dxBlock_apply, deqAt_x, deqAt_dy, deqAt_dh, wAt_ms]
  rfl

/-- A point's block of partial sums. -/
theorem sumAt_eq (c : Dev nD) (t : Fin cfg0.N) (k : Fin 3) (ch : Fin 2432) :
    sumAt (iblk m c 0 t) (iblk m c 1 t) (iblk m c 2 t) (iblk m c 3 t) (iblk m c 4 t) (iblk m c 5 t) (iblk m c 6 t) k ch
      = blockSumOf m c (bat t) (blk t) k ch := by
  match k with
  | 0 => exact Finset.sum_congr rfl fun r _ => congrFun (deqAt_dh m c t r) ch
  | 1 => exact Finset.sum_congr rfl fun r _ => congrArg₂ (· * ·) (congrFun (deqAt_dh m c t r) ch) (congrFun (congrArg Row.xhat (deqAt_x m c t r)) ch)
  | 2 => exact Finset.sum_congr rfl fun r _ => congrArg₂ (· * ·) (congrFun (deqAt_dy m c t r) ch) (iblk_2 m c t r ch)

theorem point_sum (c : Dev nD) (t : Fin cfg0.N) (k : Fin 3) (ch : Fin 2432) :
    (outsAt0 m c t.val t.isLt).2.2 (ix4 0 0 k ch) = blockSumOf m c (bat t) (blk t) k ch := by
  rw [outs_10, sumBlock_apply, sumAt_eq]

/-- The accumulator after point `8 b + j`: the sum over the blocks `0` to `j` of batch `b`. -/
theorem point_acc (c : Dev nD) (k : Fin 3) (ch : Fin 2432) (b : Fin 2) : ∀ (j : ℕ) (hj : j < 8) (h : b.val * 8 + j < cfg0.N),
    (outsAt0 m c (b.val * 8 + j) h).2.1 (ix3 0 k ch) = ∑ i : Fin (j + 1), blockSumOf m c b ⟨i.val, by omega⟩ k ch
  | 0, _, h => by
    have hb : bat ⟨b.val * 8 + 0, h⟩ = b := Fin.ext (by show (b.val * 8 + 0) / 8 = b.val; omega)
    have hj : blk ⟨b.val * 8 + 0, h⟩ = 0 := Fin.ext (by show (b.val * 8 + 0) % 8 = 0; omega)
    rw [outs_9_first m c ⟨b.val * 8 + 0, h⟩ (by show (b.val * 8 + 0) % 8 = 0; omega), pay1_apply, sumBlock_apply, sumAt_eq, hb, hj]
    exact (Fin.sum_univ_one fun i : Fin 1 => blockSumOf m c b ⟨i.val, by omega⟩ k ch).symm
  | j + 1, hj', h => by
    have hb : bat ⟨b.val * 8 + (j + 1), h⟩ = b := Fin.ext (by show (b.val * 8 + (j + 1)) / 8 = b.val; omega)
    have hj : blk ⟨b.val * 8 + (j + 1), h⟩ = ⟨j + 1, hj'⟩ := Fin.ext (by show (b.val * 8 + (j + 1)) % 8 = j + 1; omega)
    rw [outs_9_later m c ⟨b.val * 8 + (j + 1), h⟩ (by show ¬(b.val * 8 + (j + 1)) % 8 = 0; omega), pay2_apply, sumBlock_apply, sumAt_eq, hb, hj]
    refine (congrArg (· + _) (point_acc c k ch b j (by omega) (by omega))).trans ?_
    exact (Fin.sum_univ_castSucc (n := j + 1) fun i => blockSumOf m c b ⟨i.val, by omega⟩ k ch).symm

/-! ## The result arrays after the run -/

/-- Result 1, the gradient of the layer's input. -/
theorem final_8 (c : Dev nD) : (dats m 0 c).arrAt 8 cfg0.N = (fun i : S2x1024x2432.Idx => dxOf m c (i 0) (i 1) (i 2)) := by
  refine (dats m 0 c).arrAt_eq_of_covers 8 _ (by decide +kernel) fun t hf y => ?_
  obtain ⟨r, ch, rfl⟩ : ∃ (r : Fin 128) (ch : Fin 2432), y = (ix3 (0 : Fin 1) r ch : S1x128x2432.Idx) := ⟨y 1, y 2, funext fun a => by
    match a with
    | ⟨0, _⟩ => exact Subsingleton.elim (α := Fin 1) _ _
    | ⟨1, _⟩ => rfl
    | ⟨2, _⟩ => rfl⟩
  have h : ((cfg0.win 8).blk t).view.emb (ix3 (0 : Fin 1) r ch) = (ix3 (bat t) (Spec.tok (blk t) r) ch : S2x1024x2432.Idx) :=
    place3 t (index_8 t) r ch _ fun _ => rfl
  show (dats m 0 c).after 8 t (ix3 (0 : Fin 1) r ch) = (fun i : S2x1024x2432.Idx => dxOf m c (i 0) (i 1) (i 2)) (((cfg0.win 8).blk t).view.emb (ix3 (0 : Fin 1) r ch))
  rw [h, after0_8]
  exact point_dx m c t r ch

/-- Result 2, the modulation gradients. -/
theorem final_9 (c : Dev nD) : (dats m 0 c).arrAt 9 cfg0.N = (fun i : S2x3x2432.Idx => totalOf m c (i 0) (i 1) (i 2)) := by
  refine (dats m 0 c).arrAt_eq_of_covers 9 _ (by decide +kernel) fun t hf y => ?_
  obtain ⟨k, ch, rfl⟩ : ∃ (k : Fin 3) (ch : Fin 2432), y = (ix3 (0 : Fin 1) k ch : S1x3x2432.Idx) := ⟨y 1, y 2, funext fun a => by
    match a with
    | ⟨0, _⟩ => exact Subsingleton.elim (α := Fin 1) _ _
    | ⟨1, _⟩ => rfl
    | ⟨2, _⟩ => rfl⟩
  have h : ((cfg0.win 9).blk t).view.emb (ix3 (0 : Fin 1) k ch) = (ix3 (bat t) k ch : S2x3x2432.Idx) := by
    refine funext fun a => Fin.ext ?_
    match a with
    | ⟨0, _⟩ => show win0_9.index t 0 * 1 + 1 * 0 = t.val / 8; rw [index_9]; show t.val / 8 * 1 + 1 * 0 = _; omega
    | ⟨1, _⟩ => show win0_9.index t 1 * 3 + 1 * k.val = k.val; rw [index_9]; show 0 * 3 + 1 * k.val = _; omega
    | ⟨2, _⟩ => show win0_9.index t 2 * 2432 + 1 * ch.val = ch.val; rw [index_9]; show 0 * 2432 + 1 * ch.val = _; omega
  have hN : cfg0.N = 16 := N_0
  have h7 : t.val % 8 = 7 := (flush0_9 t).mp hf
  have h16 : t.val < 16 := lt_of_lt_of_eq t.isLt hN
  have ht : (bat t).val * 8 + 7 < cfg0.N := lt_of_lt_of_eq (by show t.val / 8 * 8 + 7 < 16; omega) hN.symm
  have e : t = ⟨(bat t).val * 8 + 7, ht⟩ := Fin.ext (by show t.val = t.val / 8 * 8 + 7; omega)
  show (dats m 0 c).after 9 t (ix3 (0 : Fin 1) k ch) = (fun i : S2x3x2432.Idx => totalOf m c (i 0) (i 1) (i 2)) (((cfg0.win 9).blk t).view.emb (ix3 (0 : Fin 1) k ch))
  rw [h, after0_9]
  exact (congrFun (congrArg (fun s : Fin cfg0.N => (outsAt0 m c s.val s.isLt).2.1) e) (ix3 0 k ch)).trans (point_acc m c k ch (bat t) 7 (by omega) ht)

/-- Result 3, the modulation gradients block by block. -/
theorem final_10 (c : Dev nD) : (dats m 0 c).arrAt 10 cfg0.N = (fun i : S2x8x3x2432.Idx => blockSumOf m c (i 0) (i 1) (i 2) (i 3)) := by
  refine (dats m 0 c).arrAt_eq_of_covers 10 _ (by decide +kernel) fun t hf y => ?_
  obtain ⟨k, ch, rfl⟩ : ∃ (k : Fin 3) (ch : Fin 2432), y = (ix4 (0 : Fin 1) (0 : Fin 1) k ch : S1x1x3x2432.Idx) := ⟨y 2, y 3, funext fun a => by
    match a with
    | ⟨0, _⟩ => exact Subsingleton.elim (α := Fin 1) _ _
    | ⟨1, _⟩ => exact Subsingleton.elim (α := Fin 1) _ _
    | ⟨2, _⟩ => rfl
    | ⟨3, _⟩ => rfl⟩
  have h : ((cfg0.win 10).blk t).view.emb (ix4 (0 : Fin 1) (0 : Fin 1) k ch) = (ix4 (bat t) (blk t) k ch : S2x8x3x2432.Idx) := by
    refine funext fun a => Fin.ext ?_
    match a with
    | ⟨0, _⟩ => show win0_10.index t 0 * 1 + 1 * 0 = t.val / 8; rw [index_10]; show t.val / 8 * 1 + 1 * 0 = _; omega
    | ⟨1, _⟩ => show win0_10.index t 1 * 1 + 1 * 0 = t.val % 8; rw [index_10]; show t.val % 8 * 1 + 1 * 0 = _; omega
    | ⟨2, _⟩ => show win0_10.index t 2 * 3 + 1 * k.val = k.val; rw [index_10]; show 0 * 3 + 1 * k.val = _; omega
    | ⟨3, _⟩ => show win0_10.index t 3 * 2432 + 1 * ch.val = ch.val; rw [index_10]; show 0 * 2432 + 1 * ch.val = _; omega
  show (dats m 0 c).after 10 t (ix4 (0 : Fin 1) (0 : Fin 1) k ch) = (fun i : S2x8x3x2432.Idx => blockSumOf m c (i 0) (i 1) (i 2) (i 3)) (((cfg0.win 10).blk t).view.emb (ix4 (0 : Fin 1) (0 : Fin 1) k ch))
  rw [h, after0_10]
  exact point_sum m c t k ch

end Cert.Arrays

end
-- ==== Proof.RefAt.lean ====
/-
  THE REFERENCE READ AT AN INDEX, over the extended reals: its dequantization, its means over the channels, its sums over
  each block of 128 tokens are the functions of Row.lean and Spec.lean.
-/
module

public import proofs.«01_k».proof.Proof.Spec
public import proofs.«01_k».proof.Proof.Gen.ReferenceIdeal.Value
public import Idealize.ShloMosaic.Lib.Pointwise

@[expose] public section

noncomputable section

namespace Cert.RefAt

open Cert.ReferenceIdeal Cert.ReferenceIdeal.Gen Cert.Block Idealize.ShloMosaic Idealize.SL.Sem Cert.Consts

/-- Values with one scale for each chunk of 128 channels multiplied in. -/
abbrev scaled (v : FVec Ideal S2x1024x2432 .f32) (s : Vec Ideal S2x1024x19 .f32) : FVec Ideal S2x1024x2432 .f32 :=
  shapeCast S2x1024x2432 (mulf (shapeCast S2x1024x19x128 v shapeCasts_S2x1024x2432_S2x1024x19x128)
    (broadcastTo S2x1024x19x128 (shapeCast S2x1024x19x1 s shapeCasts_S2x1024x19_S2x1024x19x1) broadcasts_S2x1024x19x1_S2x1024x19x128))
    shapeCasts_S2x1024x19x128_S2x1024x2432

theorem scaled_apply (v : FVec Ideal S2x1024x2432 .f32) (s : Vec Ideal S2x1024x19 .f32) (b : Fin 2) (t : Fin 1024) (c : Fin 2432) :
    scaled v s (ix3 b t c) = Spec.deq v s b t c := by
  pointwise [scaled]
  rfl

/-- The `dy` codes with their scales multiplied in. -/
theorem pay2_apply (a : Vec Ideal S2x1024x2432 .fp8e5m2) (s : Vec Ideal S2x1024x19 .f32) (b : Fin 2) (t : Fin 1024) (c : Fin 2432) :
    k0_pay2 a s (ix3 b t c) = Spec.deq a s b t c :=
  scaled_apply (extf .f32 a bitsLt_fp8e5m2_f32) s b t c

/-- The `dh` codes with their scales multiplied in. -/
theorem pay3_apply (a : Vec Ideal S2x1024x2432 .fp8e5m2) (s : Vec Ideal S2x1024x19 .f32) (b : Fin 2) (t : Fin 1024) (c : Fin 2432) :
    k0_pay3 a s (ix3 b t c) = Spec.deq a s b t c :=
  scaled_apply (extf .f32 a bitsLt_fp8e5m2_f32) s b t c

/-- The mean over the channels: the sum divided by 2432. -/
abbrev meanV (v : FVec Ideal S2x1024x2432 .f32) : FVec Ideal S2x1024x1 .f32 :=
  divf (shapeCast S2x1024x1 (multiReduction .add [2] S2x1024 v 0x00000000#32 reduces_S2x1024x2432_S2x1024 (.inl rfl) rfl) shapeCasts_S2x1024_S2x1024x1)
    (broadcast S2x1024x1 (Scalar.ofBits .f32 0x45180000#32))

theorem meanV_apply (v : FVec Ideal S2x1024x2432 .f32) (b : Fin 2) (t : Fin 1024) :
    meanV v (ix3 b t 0) = Row.mean (fun c => v (ix3 b t c)) := by
  pointwise [meanV]
  rw [div_d]
  rfl

/-- A value per token beside each channel. -/
theorem beside_apply (v : FVec Ideal S2x1024x1 .f32) (b : Fin 2) (t : Fin 1024) (c : Fin 2432) :
    broadcastTo S2x1024x2432 v broadcasts_S2x1024x1_S2x1024x2432 (ix3 b t c) = v (ix3 b t 0) := by
  pointwise

/-- `x` minus its mean over the channels. -/
theorem pay4_apply (a : Vec Ideal S2x1024x2432 .fp8e4m3) (s : Vec Ideal S2x1024x19 .f32) (b : Fin 2) (t : Fin 1024) (c : Fin 2432) :
    k0_pay4 a s (ix3 b t c) = Spec.deq a s b t c - Row.mean (Spec.deq a s b t) := by
  show subf (scaled (extf .f32 a bitsLt_fp8e4m3_f32) s)
    (broadcastTo S2x1024x2432 (meanV (scaled (extf .f32 a bitsLt_fp8e4m3_f32) s)) broadcasts_S2x1024x1_S2x1024x2432) (ix3 b t c) = _
  rw [ValueIdx.subf_apply, beside_apply, meanV_apply]
  simp only [scaled_apply]
  rfl

/-- The variance over the channels. -/
theorem pay5_apply (a : Vec Ideal S2x1024x2432 .fp8e4m3) (s : Vec Ideal S2x1024x19 .f32) (b : Fin 2) (t : Fin 1024) :
    k0_pay5 a s (ix3 b t 0) = Row.mean (fun c => k0_pay4 a s (ix3 b t c) * k0_pay4 a s (ix3 b t c)) :=
  meanV_apply (mulf (k0_pay4 a s) (k0_pay4 a s)) b t

/-- One over the standard deviation, of the variance. -/
theorem pay6_apply (v : FVec Ideal S2x1024x1 .f32) (b : Fin 2) (t : Fin 1024) :
    k0_pay6 v (ix3 b t 0) = Ideal.rsqrt (v (ix3 b t 0) + Ideal.ofBits .f32 0x358637BD#32) := by
  pointwise [k0_pay6]

/-- The normalized `x`. -/
theorem pay7_apply (u : FVec Ideal S2x1024x2432 .f32) (v : FVec Ideal S2x1024x1 .f32) (b : Fin 2) (t : Fin 1024) (c : Fin 2432) :
    k0_pay7 u v (ix3 b t c) = u (ix3 b t c) * k0_pay6 v (ix3 b t 0) := by
  unfold k0_pay7
  generalize k0_pay6 v = w
  pointwise

/-- `dh * (1 + scale)`. -/
theorem pay10_apply (dh : FVec Ideal S2x1024x2432 .f32) (ms : Vec Ideal S2x2432 .f32) (b : Fin 2) (t : Fin 1024) (c : Fin 2432) :
    k0_pay10 dh ms (ix3 b t c) = dh (ix3 b t c) * Spec.wt ms b c := by
  pointwise [k0_pay10, Spec.wt]

/-- … minus its mean over the channels. -/
theorem pay11_apply (dh : FVec Ideal S2x1024x2432 .f32) (ms : Vec Ideal S2x2432 .f32) (b : Fin 2) (t : Fin 1024) (c : Fin 2432) :
    k0_pay11 dh ms (ix3 b t c) = k0_pay10 dh ms (ix3 b t c) - Row.mean (fun c => k0_pay10 dh ms (ix3 b t c)) := by
  show subf (k0_pay10 dh ms) (broadcastTo S2x1024x2432 (meanV (k0_pay10 dh ms)) broadcasts_S2x1024x1_S2x1024x2432) (ix3 b t c) = _
  rw [ValueIdx.subf_apply, beside_apply, meanV_apply]

/-- The mean over the channels of `dh * (1 + scale)` times the normalized `x`. -/
theorem pay12_apply (dh : FVec Ideal S2x1024x2432 .f32) (ms : Vec Ideal S2x2432 .f32) (u : FVec Ideal S2x1024x2432 .f32) (v : FVec Ideal S2x1024x1 .f32)
    (b : Fin 2) (t : Fin 1024) :
    k0_pay12 dh ms u v (ix3 b t 0) = Row.mean (fun c => k0_pay10 dh ms (ix3 b t c) * k0_pay7 u v (ix3 b t c)) :=
  meanV_apply (mulf (k0_pay10 dh ms) (k0_pay7 u v)) b t

/-- `dx` from its parts. -/
theorem pay1_apply (dy : FVec Ideal S2x1024x2432 .f32) (r : FVec Ideal S2x1024x1 .f32) (xh g : FVec Ideal S2x1024x2432 .f32) (p : FVec Ideal S2x1024x1 .f32)
    (b : Fin 2) (t : Fin 1024) (c : Fin 2432) : (k0_pay1 dy r xh g p : Vec Ideal S2x1024x2432 .bf16) (ix3 b t c)
      = dy (ix3 b t c) + r (ix3 b t 0) * (g (ix3 b t c) - xh (ix3 b t c) * p (ix3 b t 0)) := by
  pointwise [k0_pay1]

/-- A sum over the tokens of each block of 128, with a unit axis for the row it will fill. -/
abbrev tokSum (v : FVec Ideal S2x1024x2432 .f32) : FVec Ideal S2x8x1x2432 .f32 :=
  shapeCast S2x8x1x2432 (multiReduction .add [2] S2x8x2432 (shapeCast S2x8x128x2432 v shapeCasts_S2x1024x2432_S2x8x128x2432) 0x00000000#32
    reduces_S2x8x128x2432_S2x8x2432 (.inl rfl) rfl) shapeCasts_S2x8x2432_S2x8x1x2432

theorem tokSum_apply (v : FVec Ideal S2x1024x2432 .f32) (b : Fin 2) (j : Fin 8) (c : Fin 2432) :
    tokSum v (ix4 b j 0 c) = ∑ r, v (ix3 b (Spec.tok j r) c) := by
  pointwise [tokSum]

/-- The three rows of the block sums: `dh`, `dh` times the normalized `x`, `dy` times `f`. -/
abbrev summand (dy dh u : FVec Ideal S2x1024x2432 .f32) (v : FVec Ideal S2x1024x1 .f32) (f : Vec Ideal S2x1024x2432 .bf16) (k : Fin 3) : FVec Ideal S2x1024x2432 .f32 :=
  match k with
  | 0 => dh
  | 1 => mulf dh (k0_pay7 u v)
  | 2 => mulf dy (extf .f32 f bitsLt_bf16_f32)

/-- The block sums. -/
theorem pay8_apply (dy dh u : FVec Ideal S2x1024x2432 .f32) (v : FVec Ideal S2x1024x1 .f32) (f : Vec Ideal S2x1024x2432 .bf16)
    (b : Fin 2) (j : Fin 8) (k : Fin 3) (c : Fin 2432) :
    k0_pay8 dy dh u v f (ix4 b j k c) = ∑ r, summand dy dh u v f k (ix3 b (Spec.tok j r) c) := by
  rw [← tokSum_apply]
  have hc : Shape.Concatenates (List.map (fun x => x.fst) (List.ofFn fun n : Fin 3 => (⟨S2x8x1x2432, tokSum (summand dy dh u v f n)⟩ : (s : Shape) × (s.Idx → Ideal .f32)))) S2x8x3x2432 2 :=
    concatenates_S2x8x1x2432_S2x8x1x2432_S2x8x1x2432_S2x8x3x2432_d2
  show concatenate S2x8x3x2432 2 (List.ofFn fun n : Fin 3 => (⟨S2x8x1x2432, tokSum (summand dy dh u v f n)⟩ : (s : Shape) × (s.Idx → Ideal .f32))) hc (ix4 b j k c) = _
  exact concatenate_ofFn_apply (t := S2x8x3x2432) (s₁ := S2x8x1x2432) (2 : Fin 4) (fun n => tokSum (summand dy dh u v f n)) _ rfl 1 rfl (ix4 b j k c) k
    (by show k.val / 1 = k.val; omega) (ix4 b j 0 c) (by show 0 = k.val % 1; omega) (fun a ha => by
      match a with
      | ⟨0, _⟩ => rfl
      | ⟨1, _⟩ => rfl
      | ⟨2, _⟩ => exact absurd rfl ha
      | ⟨3, _⟩ => rfl)

/-- The blocks' sums added up. -/
theorem pay9_apply (dy dh u : FVec Ideal S2x1024x2432 .f32) (v : FVec Ideal S2x1024x1 .f32) (f : Vec Ideal S2x1024x2432 .bf16)
    (b : Fin 2) (k : Fin 3) (c : Fin 2432) : k0_pay9 dy dh u v f (ix3 b k c) = ∑ j, k0_pay8 dy dh u v f (ix4 b j k c) := by
  unfold k0_pay9
  generalize k0_pay8 dy dh u v f = w
  pointwise

end Cert.RefAt

end
-- ==== Proof.RefWhole.lean ====
/-
  THE REFERENCE'S RESULT ARRAYS are, element by element, the functions of Spec.lean at its argument arrays.
-/
module

public import proofs.«01_k».proof.Proof.RefAt

@[expose] public section

noncomputable section

namespace Cert.RefWhole

open Cert.ReferenceIdeal Cert.ReferenceIdeal.Gen Cert.ReferenceIdeal.Value Cert.RefAt Cert.Block Idealize.ShloMosaic Idealize.SL.Sem Cert.Consts

variable (a0 : Vec Ideal S2x1024x2432 .fp8e4m3) (a1 : Vec Ideal S2x1024x19 .f32) (a2 : Vec Ideal S2x1024x2432 .bf16)
  (a3 : Vec Ideal S2x1024x2432 .fp8e5m2) (a4 : Vec Ideal S2x1024x19 .f32) (a5 : Vec Ideal S2x1024x2432 .fp8e5m2)
  (a6 : Vec Ideal S2x1024x19 .f32) (a7 : Vec Ideal S2x2432 .f32)

/-! ## The values shared by the results: each argument is loaded whole -/

theorem ld3 {e : EltTy} (a : Vec Ideal S2x1024x2432 e) : View.ld a r0_0 = a := View.ld_unit_zero (S := S2x1024x2432) hz0 _ a
theorem ld3' {e : EltTy} (a : Vec Ideal S2x1024x19 e) : View.ld a r0_1 = a := View.ld_unit_zero (S := S2x1024x19) hz1 _ a

theorem dy_eq : k0_pay13 a0 a1 a2 a3 a4 a5 a6 a7 = k0_pay2 a3 a4 := by unfold k0_pay13; rw [ld3, ld3']
theorem dh_eq : k0_pay14 a0 a1 a2 a3 a4 a5 a6 a7 = k0_pay3 a5 a6 := by unfold k0_pay14; rw [ld3, ld3']
theorem cen_eq : k0_pay15 a0 a1 a2 a3 a4 a5 a6 a7 = k0_pay4 a0 a1 := by unfold k0_pay15; rw [ld3, ld3']
theorem var_eq : k0_pay16 a0 a1 a2 a3 a4 a5 a6 a7 = k0_pay5 a0 a1 := by unfold k0_pay16; rw [ld3, ld3']

/-- One over the standard deviation of a token. -/
theorem rstd_apply (b : Fin 2) (t : Fin 1024) : k0_pay6 (k0_pay5 a0 a1) (ix3 b t 0) = Row.rstd (Spec.deq a0 a1 b t) := by
  rw [pay6_apply, pay5_apply]
  simp only [pay4_apply]
  rfl

/-- The normalized `x`. -/
theorem xhat_apply (b : Fin 2) (t : Fin 1024) (c : Fin 2432) :
    k0_pay7 (k0_pay4 a0 a1) (k0_pay5 a0 a1) (ix3 b t c) = Row.xhat (Spec.deq a0 a1 b t) c := by
  rw [pay7_apply, rstd_apply, pay4_apply]
  rfl

/-! ## The results -/

/-- Result 1 at batch `b`, token `t`, channel `c`. -/
theorem G8_apply (b : Fin 2) (t : Fin 1024) (c : Fin 2432) :
    (G8 a0 a1 a2 a3 a4 a5 a6 a7) (ix3 b t c) = Spec.dx a0 a1 a3 a4 a5 a6 a7 b t c := by
  rw [G8, dy_eq, dh_eq, cen_eq, var_eq, pay1_apply, rstd_apply, xhat_apply, pay11_apply, pay12_apply, pay2_apply]
  simp only [pay10_apply, pay3_apply, xhat_apply]
  rfl

/-- Result 3 at batch `b`, token block `j`, row `k`, channel `c`. -/
theorem blocks_apply (b : Fin 2) (j : Fin 8) (k : Fin 3) (c : Fin 2432) :
    k0_pay8 (k0_pay2 a3 a4) (k0_pay3 a5 a6) (k0_pay4 a0 a1) (k0_pay5 a0 a1) a2 (ix4 b j k c) = Spec.blockSum a0 a1 a2 a3 a4 a5 a6 b j k c := by
  rw [pay8_apply]
  match k with
  | 0 => exact Finset.sum_congr rfl fun r _ => pay3_apply a5 a6 b _ c
  | 1 => exact Finset.sum_congr rfl fun r _ => congrArg₂ (· * ·) (pay3_apply a5 a6 b _ c) (xhat_apply a0 a1 b _ c)
  | 2 => exact Finset.sum_congr rfl fun r _ => congrArg (· * a2 (ix3 b (Spec.tok j r) c)) (pay2_apply a3 a4 b _ c)

theorem G10_apply (b : Fin 2) (j : Fin 8) (k : Fin 3) (c : Fin 2432) :
    (G10 a0 a1 a2 a3 a4 a5 a6 a7) (ix4 b j k c) = Spec.blockSum a0 a1 a2 a3 a4 a5 a6 b j k c := by
  rw [G10, dy_eq, dh_eq, cen_eq, var_eq, blocks_apply]

/-- Result 2 at batch `b`, row `k`, channel `c`. -/
theorem G9_apply (b : Fin 2) (k : Fin 3) (c : Fin 2432) :
    (G9 a0 a1 a2 a3 a4 a5 a6 a7) (ix3 b k c) = Spec.total a0 a1 a2 a3 a4 a5 a6 b k c := by
  rw [G9, dy_eq, dh_eq, cen_eq, var_eq, pay9_apply]
  exact Finset.sum_congr rfl fun j _ => blocks_apply a0 a1 a2 a3 a4 a5 a6 b j k c

end Cert.RefWhole

end
-- ==== Proof.Equation.lean ====
/-
  THE EQUATION. From memories that agree on the arguments, the kernel's three result arrays are the reference's: both are
  the functions of Spec.lean of the arguments.
-/
module

public import proofs.«01_k».proof.Defs
public import proofs.«01_k».proof.Proof.Arrays
public import proofs.«01_k».proof.Proof.RefWhole

@[expose] public section

noncomputable section

namespace Cert.Equation

open Idealize.ShloMosaic Idealize.ShloMosaic.TcCoe Idealize.SL.Sem

/-- The kernel and the reference end with equal results. -/
theorem algebraic : algebraic_KernelIdeal_ReferenceIdeal (hKernelIdeal := Cert.KernelIdeal.Gen.facts) (hReferenceIdeal := Cert.ReferenceIdeal.Gen.facts) := by
  intro m g m' g' _ hargs
  refine ⟨fun c => (KernelIdeal.Gen.dats m 0 c).arrAt 8 KernelIdeal.cfg0.N, fun c => (KernelIdeal.Gen.dats m 0 c).arrAt 9 KernelIdeal.cfg0.N,
    fun c => (KernelIdeal.Gen.dats m 0 c).arrAt 10 KernelIdeal.cfg0.N, KernelIdeal.Value.run_blocks m g, ?_⟩
  refine (θ_run _ _ _).mono (fun r h c => ?_) (ReferenceIdeal.Value.run m' g')
  obtain ⟨h8, h9, h10, hk⟩ := h c
  obtain ⟨e0, e1, e2, e3, e4, e5, e6, e7⟩ := hargs c
  refine ⟨h8.trans ?_, h9.trans ?_, h10.trans ?_, hk⟩
  · rw [e0, e1, e2, e3, e4, e5, e6, e7]
    refine Eq.trans ?_ (Arrays.final_8 m c).symm
    exact funext fun i => (congrArg _ (ValueIdx.eq_ix3 i)).trans (RefWhole.G8_apply _ _ _ _ _ _ _ _ (i 0) (i 1) (i 2))
  · rw [e0, e1, e2, e3, e4, e5, e6, e7]
    refine Eq.trans ?_ (Arrays.final_9 m c).symm
    exact funext fun i => (congrArg _ (ValueIdx.eq_ix3 i)).trans (RefWhole.G9_apply _ _ _ _ _ _ _ _ (i 0) (i 1) (i 2))
  · rw [e0, e1, e2, e3, e4, e5, e6, e7]
    refine Eq.trans ?_ (Arrays.final_10 m c).symm
    exact funext fun i => (congrArg _ (ValueIdx.eq_ix4 i)).trans (RefWhole.G10_apply _ _ _ _ _ _ _ _ (i 0) (i 1) (i 2) (i 3))

end Cert.Equation

end
-- ==== Proof.lean ====
/-
  THE CERTIFICATE of the layernorm-with-modulation backward kernel: the three programs run from any memory (frames), naming
  the kernel's constant 1/2432 preserves it, and over the extended reals the kernel's three results are the reference's
  (Proof/Equation.lean). The mathematics is in Row.lean (one token) and Spec.lean (whole arrays); Block, Pieces, BlockAt and
  BlockWhole read what one grid point computes, Points and Arrays what the kernel's arrays end holding, RefAt and RefWhole
  what the reference's do.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The three frames, the named constant, and the equation. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  IdealRules.named_const.statement Cert.KernelIdeal.κ "inv_d" .f32 0x39D79436#32 ((1 / 2432 : ℝ) : EReal) rfl,
  Cert.Equation.algebraic⟩

end Cert.Proof

end
